-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x12x325x2 : Shape := ⟨4, ![64, 12, 325, 2]⟩
abbrev S2x64x325x64 : Shape := ⟨4, ![2, 64, 325, 64]⟩
abbrev S325x325 : Shape := ⟨2, ![325, 325]⟩
abbrev S330x128 : Shape := ⟨2, ![330, 128]⟩
abbrev S128 : Shape := ⟨1, ![128]⟩
abbrev S330x64 : Shape := ⟨2, ![330, 64]⟩
abbrev S64 : Shape := ⟨1, ![64]⟩
abbrev S640x128 : Shape := ⟨2, ![640, 128]⟩
abbrev S640x64 : Shape := ⟨2, ![640, 64]⟩
abbrev S64x2 : Shape := ⟨2, ![64, 2]⟩
abbrev S2 : Shape := ⟨1, ![2]⟩
abbrev S_ : Shape := ⟨0, ![]⟩

class Facts : Prop where
  bcast_S_S64x12x325x2 : S_.BroadcastsInDim S64x12x325x2 (![] : Fin 0 → Fin S64x12x325x2.rank)
  reducesTo_S64x12x325x2_S_d0_1_2_3 : S64x12x325x2.ReducesTo [0, 1, 2, 3] S_
  h_S_ : 0 < S_.numel
  bcast_S_S2x64x325x64 : S_.BroadcastsInDim S2x64x325x64 (![] : Fin 0 → Fin S2x64x325x64.rank)
  reducesTo_S2x64x325x64_S_d0_1_2_3 : S2x64x325x64.ReducesTo [0, 1, 2, 3] S_
  bcast_S_S325x325 : S_.BroadcastsInDim S325x325 (![] : Fin 0 → Fin S325x325.rank)
  reducesTo_S325x325_S_d0_1 : S325x325.ReducesTo [0, 1] S_
  bcast_S_S330x128 : S_.BroadcastsInDim S330x128 (![] : Fin 0 → Fin S330x128.rank)
  reducesTo_S330x128_S_d0_1 : S330x128.ReducesTo [0, 1] S_
  bcast_S_S330x64 : S_.BroadcastsInDim S330x64 (![] : Fin 0 → Fin S330x64.rank)
  reducesTo_S330x64_S_d0_1 : S330x64.ReducesTo [0, 1] S_
  bcast_S_S640x128 : S_.BroadcastsInDim S640x128 (![] : Fin 0 → Fin S640x128.rank)
  reducesTo_S640x128_S_d0_1 : S640x128.ReducesTo [0, 1] S_
  bcast_S_S640x64 : S_.BroadcastsInDim S640x64 (![] : Fin 0 → Fin S640x64.rank)
  reducesTo_S640x64_S_d0_1 : S640x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg10 : FVec F S640x64 .f32) (main_arg12 : FVec F S64x2 .f32) (main_arg13 : FVec F S2 .f32) (main_v29 : IVec S_ 1) (main_v32 : IVec S640x128 1) (main_c_12 : IVec S_ 1) : IVec S_ 1 :=
  let main_v33 : IVec S_ 1 := (fun x v => Host.reduce IntOp.andi x v reducesTo_S640x128_S_d0_1 h_S_) main_v32 main_c_12
  let main_v34 : IVec S_ 1 := andi main_v29 main_v33
  let main_v35 : FVec F S640x64 .f32 := Host.absf main_arg10
  let main_cst_13 : FVec F S_ .f32 := constant S_ .f32 0x7F800000#32
  let main_v36 : FVec F S640x64 .f32 := broadcastInDim S640x64 ![] bcast_S_S640x64 main_cst_13
  let main_v37 : IVec S640x64 1 := cmpf .olt main_v35 main_v36
  let main_c_14 : IVec S_ 1 := constantI S_ 1 1#1
  let main_v38 : IVec S_ 1 := (fun x v => Host.reduce IntOp.andi x v reducesTo_S640x64_S_d0_1 h_S_) main_v37 main_c_14
  let main_v39 : IVec S_ 1 := andi main_v34 main_v38
  let main_v40 : FVec F S64x2 .f32 := Host.absf main_arg12
  let main_cst_15 : FVec F S_ .f32 := constant S_ .f32 0x7F800000#32
  let main_v41 : FVec F S64x2 .f32 := broadcastInDim S64x2 ![] bcast_S_S64x2 main_cst_15
  let main_v42 : IVec S64x2 1 := cmpf .olt main_v40 main_v41
  let main_c_16 : IVec S_ 1 := constantI S_ 1 1#1
  let main_v43 : IVec S_ 1 := (fun x v => Host.reduce IntOp.andi x v reducesTo_S64x2_S_d0_1 h_S_) main_v42 main_c_16
  let main_v44 : IVec S_ 1 := andi main_v39 main_v43
  let main_v45 : FVec F S2 .f32 := Host.absf main_arg13
  let main_cst_17 : FVec F S_ .f32 := constant S_ .f32 0x7F800000#32
  let main_v46 : FVec F S2 .f32 := broadcastInDim S2 ![] bcast_S_S2 main_cst_17
  let main_v47 : IVec S2 1 := cmpf .olt main_v45 main_v46
  let main_c_18 : IVec S_ 1 := constantI S_ 1 1#1
  let main_v48 : IVec S_ 1 := (fun x v => Host.reduce IntOp.andi x v reducesTo_S2_S_d0 h_S_) main_v47 main_c_18
  let main_v49 : IVec S_ 1 := andi main_v44 main_v48
  main_v49

def fn_part1 {F : FTy → Type} [FloatOps F] (main_arg4 : FVec F S330x128 .f32) (main_arg6 : FVec F S330x64 .f32) (main_arg8 : FVec F S640x128 .f32) (main_arg10 : FVec F S640x64 .f32) (main_arg12 : FVec F S64x2 .f32) (main_arg13 : FVec F S2 .f32) (main_v14 : IVec S_ 1) (main_v15 : FVec F S325x325 .f32) (main_cst_5 : FVec F S_ .f32) : IVec S_ 1 :=
  let main_v16 : FVec F S325x325 .f32 := broadcastInDim S325x325 ![] bcast_S_S325x325 main_cst_5
  let main_v17 : IVec S325x325 1 := cmpf .olt main_v15 main_v16
  let main_c_6 : IVec S_ 1 := constantI S_ 1 1#1
  let main_v18 : IVec S_ 1 := (fun x v => Host.reduce IntOp.andi x v reducesTo_S325x325_S_d0_1 h_S_) main_v17 main_c_6
  let main_v19 : IVec S_ 1 := andi main_v14 main_v18
  let main_v20 : FVec F S330x128 .f32 := Host.absf main_arg4
  let main_cst_7 : FVec F S_ .f32 := constant S_ .f32 0x7F800000#32
  let main_v21 : FVec F S330x128 .f32 := broadcastInDim S330x128 ![] bcast_S_S330x128 main_cst_7
  let main_v22 : IVec S330x128 1 := cmpf .olt main_v20 main_v21
  let main_c_8 : IVec S_ 1 := constantI S_ 1 1#1
  let main_v23 : IVec S_ 1 := (fun x v => Host.reduce IntOp.andi x v reducesTo_S330x128_S_d0_1 h_S_) main_v22 main_c_8
  let main_v24 : IVec S_ 1 := andi main_v19 main_v23
  let main_v25 : FVec F S330x64 .f32 := Host.absf main_arg6
  let main_cst_9 : FVec F S_ .f32 := constant S_ .f32 0x7F800000#32
  let main_v26 : FVec F S330x64 .f32 := broadcastInDim S330x64 ![] bcast_S_S330x64 main_cst_9
  let main_v27 : IVec S330x64 1 := cmpf .olt main_v25 main_v26
  let main_c_10 : IVec S_ 1 := constantI S_ 1 1#1
  let main_v28 : IVec S_ 1 := (fun x v => Host.reduce IntOp.andi x v reducesTo_S330x64_S_d0_1 h_S_) main_v27 main_c_10
  let main_v29 : IVec S_ 1 := andi main_v24 main_v28
  let main_v30 : FVec F S640x128 .f32 := Host.absf main_arg8
  let main_cst_11 : FVec F S_ .f32 := constant S_ .f32 0x7F800000#32
  let main_v31 : FVec F S640x128 .f32 := broadcastInDim S640x128 ![] bcast_S_S640x128 main_cst_11
  let main_v32 : IVec S640x128 1 := cmpf .olt main_v30 main_v31
  let main_c_12 : IVec S_ 1 := constantI S_ 1 1#1
  fn_part2 (F := F) main_arg10 main_arg12 main_arg13 main_v29 main_v32 main_c_12

def fn {F : FTy → Type} [FloatOps F] (main_arg0 : FVec F S64x12x325x2 .f32) (main_arg1 : FVec F S2x64x325x64 .f32) (main_arg2 : FVec F S325x325 .f32) (main_arg3 : FVec F S325x325 .f32) (main_arg4 : FVec F S330x128 .f32) (main_arg5 : FVec F S128 .f32) (main_arg6 : FVec F S330x64 .f32) (main_arg7 : FVec F S64 .f32) (main_arg8 : FVec F S640x128 .f32) (main_arg9 : FVec F S128 .f32) (main_arg10 : FVec F S640x64 .f32) (main_arg11 : FVec F S64 .f32) (main_arg12 : FVec F S64x2 .f32) (main_arg13 : FVec F S2 .f32) : IVec S_ 1 :=
  let main_v0 : FVec F S64x12x325x2 .f32 := Host.absf main_arg0
  let main_cst : FVec F S_ .f32 := constant S_ .f32 0x7F800000#32
  let main_v1 : FVec F S64x12x325x2 .f32 := broadcastInDim S64x12x325x2 ![] bcast_S_S64x12x325x2 main_cst
  let main_v2 : IVec S64x12x325x2 1 := cmpf .olt main_v0 main_v1
  let main_c : IVec S_ 1 := constantI S_ 1 1#1
  let main_v3 : IVec S_ 1 := (fun x v => Host.reduce IntOp.andi x v reducesTo_S64x12x325x2_S_d0_1_2_3 h_S_) main_v2 main_c
  let main_c_0 : IVec S_ 1 := constantI S_ 1 1#1
  let main_v4 : IVec S_ 1 := andi main_c_0 main_v3
  let main_v5 : FVec F S2x64x325x64 .f32 := Host.absf main_arg1
  let main_cst_1 : FVec F S_ .f32 := constant S_ .f32 0x7F800000#32
  let main_v6 : FVec F S2x64x325x64 .f32 := broadcastInDim S2x64x325x64 ![] bcast_S_S2x64x325x64 main_cst_1
  let main_v7 : IVec S2x64x325x64 1 := cmpf .olt main_v5 main_v6
  let main_c_2 : IVec S_ 1 := constantI S_ 1 1#1
  let main_v8 : IVec S_ 1 := (fun x v => Host.reduce IntOp.andi x v reducesTo_S2x64x325x64_S_d0_1_2_3 h_S_) main_v7 main_c_2
  let main_v9 : IVec S_ 1 := andi main_v4 main_v8
  let main_v10 : FVec F S325x325 .f32 := Host.absf main_arg2
  let main_cst_3 : FVec F S_ .f32 := constant S_ .f32 0x7F800000#32
  let main_v11 : FVec F S325x325 .f32 := broadcastInDim S325x325 ![] bcast_S_S325x325 main_cst_3
  let main_v12 : IVec S325x325 1 := cmpf .olt main_v10 main_v11
  let main_c_4 : IVec S_ 1 := constantI S_ 1 1#1
  let main_v13 : IVec S_ 1 := (fun x v => Host.reduce IntOp.andi x v reducesTo_S325x325_S_d0_1 h_S_) main_v12 main_c_4
  let main_v14 : IVec S_ 1 := andi main_v9 main_v13
  let main_v15 : FVec F S325x325 .f32 := Host.absf main_arg3
  let main_cst_5 : FVec F S_ .f32 := constant S_ .f32 0x7F800000#32
  fn_part1 (F := F) main_arg4 main_arg6 main_arg8 main_arg10 main_arg12 main_arg13 main_v14 main_v15 main_cst_5
-- ==== Kernel.lean ====
abbrev S64x12x325x2 : Shape := ⟨4, ![64, 12, 325, 2]⟩
abbrev S2x64x325x64 : Shape := ⟨4, ![2, 64, 325, 64]⟩
abbrev S325x325 : Shape := ⟨2, ![325, 325]⟩
abbrev S330x128 : Shape := ⟨2, ![330, 128]⟩
abbrev S128 : Shape := ⟨1, ![128]⟩
abbrev S330x64 : Shape := ⟨2, ![330, 64]⟩
abbrev S64 : Shape := ⟨1, ![64]⟩
abbrev S640x128 : Shape := ⟨2, ![640, 128]⟩
abbrev S640x64 : Shape := ⟨2, ![640, 64]⟩
abbrev S64x2 : Shape := ⟨2, ![64, 2]⟩
abbrev S2 : Shape := ⟨1, ![2]⟩
abbrev S11 : Shape := ⟨1, ![11]⟩
abbrev S12x325x64x2 : Shape := ⟨4, ![12, 325, 64, 2]⟩
abbrev S12x325x4x32 : Shape := ⟨4, ![12, 325, 4, 32]⟩
abbrev S12x4x325x32 : Shape := ⟨4, ![12, 4, 325, 32]⟩
abbrev S2x325x64x64 : Shape := ⟨4, ![2, 325, 64, 64]⟩
abbrev S1x325x64x64 : Shape := ⟨4, ![1, 325, 64, 64]⟩
abbrev S325x64x64 : Shape := ⟨3, ![325, 64, 64]⟩
abbrev S5x66x128 : Shape := ⟨3, ![5, 66, 128]⟩
abbrev S5x2x128 : Shape := ⟨3, ![5, 2, 128]⟩
abbrev S_ : Shape := ⟨0, ![]⟩
abbrev S5x64x128 : Shape := ⟨3, ![5, 64, 128]⟩
abbrev S5x128x128 : Shape := ⟨3, ![5, 128, 128]⟩
abbrev S128x5x128 : Shape := ⟨3, ![128, 5, 128]⟩
abbrev S128x640 : Shape := ⟨2, ![128, 640]⟩
abbrev S5x66x64 : Shape := ⟨3, ![5, 66, 64]⟩
abbrev S5x2x64 : Shape := ⟨3, ![5, 2, 64]⟩
abbrev S5x64x64 : Shape := ⟨3, ![5, 64, 64]⟩
abbrev S5x128x64 : Shape := ⟨3, ![5, 128, 64]⟩
abbrev S128x5x64 : Shape := ⟨3, ![128, 5, 64]⟩
abbrev S128x320 : Shape := ⟨2, ![128, 320]⟩
abbrev S1x128 : Shape := ⟨2, ![1, 128]⟩
abbrev S1x64 : Shape := ⟨2, ![1, 64]⟩
abbrev S1x2 : Shape := ⟨2, ![1, 2]⟩
abbrev S11x4x325x32 : Shape := ⟨4, ![11, 4, 325, 32]⟩
abbrev S12x1x325x32 : Shape := ⟨4, ![12, 1, 325, 32]⟩
abbrev S325x16x64 : Shape := ⟨3, ![325, 16, 64]⟩
abbrev S11x1x325x32 : Shape := ⟨4, ![11, 1, 325, 32]⟩
abbrev S1x1x128 : Shape := ⟨3, ![1, 1, 128]⟩
abbrev S1x1x64 : Shape := ⟨3, ![1, 1, 64]⟩
abbrev S1x1x2 : Shape := ⟨3, ![1, 1, 2]⟩
abbrev S1x1x325x32 : Shape := ⟨4, ![1, 1, 325, 32]⟩
abbrev S325x32 : Shape := ⟨2, ![325, 32]⟩
abbrev S325x16x2 : Shape := ⟨3, ![325, 16, 2]⟩
abbrev S325x16x62 : Shape := ⟨3, ![325, 16, 62]⟩
abbrev S325x16x128 : Shape := ⟨3, ![325, 16, 128]⟩
abbrev S325x16x640 : Shape := ⟨3, ![325, 16, 640]⟩
abbrev S325x16x320 : Shape := ⟨3, ![325, 16, 320]⟩
abbrev S1 : Shape := ⟨1, ![1]⟩
abbrev S11x325x4x32 : Shape := ⟨4, ![11, 325, 4, 32]⟩
abbrev S11x325x64x2 : Shape := ⟨4, ![11, 325, 64, 2]⟩
abbrev S64x11x325x2 : Shape := ⟨4, ![64, 11, 325, 2]⟩

abbrev nBuf : Space → Nat
  | .hbm => 68
  | .vmem => 20
  | .smem => 1
  | _ => 0

abbrev bufTy : (tb : Table) → Fin (tcTables nBuf tb) → BufTy
  | .hbm, ⟨0, _⟩ => ⟨S64x12x325x2, .f32⟩
  | .hbm, ⟨1, _⟩ => ⟨S2x64x325x64, .f32⟩
  | .hbm, ⟨2, _⟩ => ⟨S325x325, .f32⟩
  | .hbm, ⟨3, _⟩ => ⟨S325x325, .f32⟩
  | .hbm, ⟨4, _⟩ => ⟨S330x128, .f32⟩
  | .hbm, ⟨5, _⟩ => ⟨S128, .f32⟩
  | .hbm, ⟨6, _⟩ => ⟨S330x64, .f32⟩
  | .hbm, ⟨7, _⟩ => ⟨S64, .f32⟩
  | .hbm, ⟨8, _⟩ => ⟨S640x128, .f32⟩
  | .hbm, ⟨9, _⟩ => ⟨S128, .f32⟩
  | .hbm, ⟨10, _⟩ => ⟨S640x64, .f32⟩
  | .hbm, ⟨11, _⟩ => ⟨S64, .f32⟩
  | .hbm, ⟨12, _⟩ => ⟨S64x2, .f32⟩
  | .hbm, ⟨13, _⟩ => ⟨S2, .f32⟩
  | .hbm, ⟨14, _⟩ => ⟨S11, .f32⟩
  | .hbm, ⟨15, _⟩ => ⟨S12x325x64x2, .f32⟩
  | .hbm, ⟨16, _⟩ => ⟨S12x325x4x32, .f32⟩
  | .hbm, ⟨17, _⟩ => ⟨S12x4x325x32, .f32⟩
  | .hbm, ⟨18, _⟩ => ⟨S2x325x64x64, .f32⟩
  | .hbm, ⟨19, _⟩ => ⟨S1x325x64x64, .f32⟩
  | .hbm, ⟨20, _⟩ => ⟨S325x64x64, .f32⟩
  | .hbm, ⟨21, _⟩ => ⟨S1x325x64x64, .f32⟩
  | .hbm, ⟨22, _⟩ => ⟨S325x64x64, .f32⟩
  | .hbm, ⟨23, _⟩ => ⟨S5x66x128, .f32⟩
  | .hbm, ⟨24, _⟩ => ⟨S5x2x128, .f32⟩
  | .hbm, ⟨25, _⟩ => ⟨S_, .i32⟩
  | .hbm, ⟨26, _⟩ => ⟨S_, .f32⟩
  | .hbm, ⟨27, _⟩ => ⟨S5x64x128, .f32⟩
  | .hbm, ⟨28, _⟩ => ⟨S5x64x128, .f32⟩
  | .hbm, ⟨29, _⟩ => ⟨S5x128x128, .f32⟩
  | .hbm, ⟨30, _⟩ => ⟨S128x5x128, .f32⟩
  | .hbm, ⟨31, _⟩ => ⟨S128x640, .f32⟩
  | .hbm, ⟨32, _⟩ => ⟨S5x66x64, .f32⟩
  | .hbm, ⟨33, _⟩ => ⟨S5x2x64, .f32⟩
  | .hbm, ⟨34, _⟩ => ⟨S_, .i32⟩
  | .hbm, ⟨35, _⟩ => ⟨S_, .f32⟩
  | .hbm, ⟨36, _⟩ => ⟨S5x64x64, .f32⟩
  | .hbm, ⟨37, _⟩ => ⟨S5x64x64, .f32⟩
  | .hbm, ⟨38, _⟩ => ⟨S5x128x64, .f32⟩
  | .hbm, ⟨39, _⟩ => ⟨S128x5x64, .f32⟩
  | .hbm, ⟨40, _⟩ => ⟨S128x320, .f32⟩
  | .hbm, ⟨41, _⟩ => ⟨S5x128x128, .f32⟩
  | .hbm, ⟨42, _⟩ => ⟨S5x64x128, .f32⟩
  | .hbm, ⟨43, _⟩ => ⟨S_, .i32⟩
  | .hbm, ⟨44, _⟩ => ⟨S_, .f32⟩
  | .hbm, ⟨45, _⟩ => ⟨S5x64x128, .f32⟩
  | .hbm, ⟨46, _⟩ => ⟨S5x64x128, .f32⟩
  | .hbm, ⟨47, _⟩ => ⟨S5x128x128, .f32⟩
  | .hbm, ⟨48, _⟩ => ⟨S128x5x128, .f32⟩
  | .hbm, ⟨49, _⟩ => ⟨S128x640, .f32⟩
  | .hbm, ⟨50, _⟩ => ⟨S5x128x64, .f32⟩
  | .hbm, ⟨51, _⟩ => ⟨S5x64x64, .f32⟩
  | .hbm, ⟨52, _⟩ => ⟨S_, .i32⟩
  | .hbm, ⟨53, _⟩ => ⟨S_, .f32⟩
  | .hbm, ⟨54, _⟩ => ⟨S5x64x64, .f32⟩
  | .hbm, ⟨55, _⟩ => ⟨S5x64x64, .f32⟩
  | .hbm, ⟨56, _⟩ => ⟨S5x128x64, .f32⟩
  | .hbm, ⟨57, _⟩ => ⟨S128x5x64, .f32⟩
  | .hbm, ⟨58, _⟩ => ⟨S128x320, .f32⟩
  | .hbm, ⟨59, _⟩ => ⟨S1x128, .f32⟩
  | .hbm, ⟨60, _⟩ => ⟨S1x64, .f32⟩
  | .hbm, ⟨61, _⟩ => ⟨S1x128, .f32⟩
  | .hbm, ⟨62, _⟩ => ⟨S1x64, .f32⟩
  | .hbm, ⟨63, _⟩ => ⟨S1x2, .f32⟩
  | .hbm, ⟨64, _⟩ => ⟨S11x4x325x32, .f32⟩
  | .hbm, ⟨65, _⟩ => ⟨S11x325x4x32, .f32⟩
  | .hbm, ⟨66, _⟩ => ⟨S11x325x64x2, .f32⟩
  | .hbm, ⟨67, _⟩ => ⟨S64x11x325x2, .f32⟩
  | .local _ .vmem, ⟨0, _⟩ => ⟨S12x1x325x32, .f32⟩
  | .local _ .vmem, ⟨1, _⟩ => ⟨S12x1x325x32, .f32⟩
  | .local _ .vmem, ⟨2, _⟩ => ⟨S325x16x64, .f32⟩
  | .local _ .vmem, ⟨3, _⟩ => ⟨S325x16x64, .f32⟩
  | .local _ .vmem, ⟨4, _⟩ => ⟨S325x16x64, .f32⟩
  | .local _ .vmem, ⟨5, _⟩ => ⟨S325x16x64, .f32⟩
  | .local _ .vmem, ⟨6, _⟩ => ⟨S325x325, .f32⟩
  | .local _ .vmem, ⟨7, _⟩ => ⟨S325x325, .f32⟩
  | .local _ .vmem, ⟨8, _⟩ => ⟨S128x640, .f32⟩
  | .local _ .vmem, ⟨9, _⟩ => ⟨S128x320, .f32⟩
  | .local _ .vmem, ⟨10, _⟩ => ⟨S128x640, .f32⟩
  | .local _ .vmem, ⟨11, _⟩ => ⟨S128x320, .f32⟩
  | .local _ .vmem, ⟨12, _⟩ => ⟨S1x128, .f32⟩
  | .local _ .vmem, ⟨13, _⟩ => ⟨S1x64, .f32⟩
  | .local _ .vmem, ⟨14, _⟩ => ⟨S1x128, .f32⟩
  | .local _ .vmem, ⟨15, _⟩ => ⟨S1x64, .f32⟩
  | .local _ .vmem, ⟨16, _⟩ => ⟨S64x2, .f32⟩
  | .local _ .vmem, ⟨17, _⟩ => ⟨S1x2, .f32⟩
  | .local _ .vmem, ⟨18, _⟩ => ⟨S11x1x325x32, .f32⟩
  | .local _ .vmem, ⟨19, _⟩ => ⟨S11x1x325x32, .f32⟩
  | .local _ .smem, ⟨0, _⟩ => ⟨S11, .f32⟩
  | _, _ => ⟨S64x12x325x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_call0_v0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_0 : Ref sig .tc := ⟨.hbm, 34, rfl⟩
abbrev main_call1_v0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_1 : Ref sig .tc := ⟨.hbm, 43, rfl⟩
abbrev main_call2_v0 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_2 : Ref sig .tc := ⟨.hbm, 52, rfl⟩
abbrev main_call3_v0 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg1_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_28 : BitVec 32 := 0#32
  let c11_i32 : BitVec 32 := 11#32
  let v45 : BitVec 32 := Scalar.addi c0_i32_28 c11_i32
  let c1_i32 : BitVec 32 := 1#32
  ⟨c0_i32_28, v45, c1_i32⟩
def k0_off1 (k0_t1 : Fin k0_t1_loop.trips) : Fin 4 → Nat :=
  let c0_i32_28 : BitVec 32 := 0#32
  let c1_i32 : BitVec 32 := 1#32
  let arg18 : BitVec 32 := Scf.iv c0_i32_28 c1_i32 k0_t1
  let v173 : Index := Scalar.indexCast arg18
  let c0_61 : Index := 0#32
  let c0_62 : Index := 0#32
  let c0_63 : Index := 0#32
  ![v173.toNat, 0, 0, 0]
def k0_off2 (k0_t1 : Fin k0_t1_loop.trips) : Fin 1 → Nat :=
  let c0_i32_28 : BitVec 32 := 0#32
  let c1_i32 : BitVec 32 := 1#32
  let arg18 : BitVec 32 := Scf.iv c0_i32_28 c1_i32 k0_t1
  let v177 : Index := Scalar.indexCast arg18
  ![v177.toNat]
def k0_off3 (k0_t1 : Fin k0_t1_loop.trips) : Fin 4 → Nat :=
  let c0_i32_28 : BitVec 32 := 0#32
  let c1_i32 : BitVec 32 := 1#32
  let arg18 : BitVec 32 := Scf.iv c0_i32_28 c1_i32 k0_t1
  let c1_i32_64 : BitVec 32 := 1#32
  let v179 : BitVec 32 := Scalar.addi arg18 c1_i32_64
  let v180 : Index := Scalar.indexCast v179
  let c0_65 : Index := 0#32
  let c0_66 : Index := 0#32
  let c0_67 : Index := 0#32
  ![v180.toNat, 0, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S12x1x325x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S11 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S325x16x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S325x16x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S325x325 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S325x325 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x320 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x640 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x320 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x2 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S11x1x325x32 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S64x12x325x2 : Shape := ⟨4, ![64, 12, 325, 2]⟩
abbrev S2x64x325x64 : Shape := ⟨4, ![2, 64, 325, 64]⟩
abbrev S325x325 : Shape := ⟨2, ![325, 325]⟩
abbrev S330x128 : Shape := ⟨2, ![330, 128]⟩
abbrev S128 : Shape := ⟨1, ![128]⟩
abbrev S330x64 : Shape := ⟨2, ![330, 64]⟩
abbrev S64 : Shape := ⟨1, ![64]⟩
abbrev S640x128 : Shape := ⟨2, ![640, 128]⟩
abbrev S640x64 : Shape := ⟨2, ![640, 64]⟩
abbrev S64x2 : Shape := ⟨2, ![64, 2]⟩
abbrev S2 : Shape := ⟨1, ![2]⟩
abbrev S64x1x325x2 : Shape := ⟨4, ![64, 1, 325, 2]⟩
abbrev S64x325x2 : Shape := ⟨3, ![64, 325, 2]⟩
abbrev S1x64x325x64 : Shape := ⟨4, ![1, 64, 325, 64]⟩
abbrev S64x325x64 : Shape := ⟨3, ![64, 325, 64]⟩
abbrev S_ : Shape := ⟨0, ![]⟩
abbrev S64x11x325x2 : Shape := ⟨4, ![64, 11, 325, 2]⟩
abbrev S64x325x66 : Shape := ⟨3, ![64, 325, 66]⟩
abbrev S64x66x325 : Shape := ⟨3, ![64, 66, 325]⟩
abbrev S64x325x330 : Shape := ⟨3, ![64, 325, 330]⟩
abbrev S64x325x128 : Shape := ⟨3, ![64, 325, 128]⟩
abbrev S1x1x128 : Shape := ⟨3, ![1, 1, 128]⟩
abbrev S1x1x64 : Shape := ⟨3, ![1, 1, 64]⟩
abbrev S64x128x325 : Shape := ⟨3, ![64, 128, 325]⟩
abbrev S64x325x640 : Shape := ⟨3, ![64, 325, 640]⟩
abbrev S1x1x2 : Shape := ⟨3, ![1, 1, 2]⟩
abbrev S11 : Shape := ⟨1, ![11]⟩
abbrev S11x1x1 : Shape := ⟨3, ![11, 1, 1]⟩

abbrev nBuf : Space → Nat
  | .hbm => 234
  | .vmem => 0
  | .smem => 0
  | _ => 0

abbrev hbmTy0_0 (i : Nat) : BufTy := match i % 128 with
  | 0 => ⟨S64x12x325x2, .f32⟩
  | 1 => ⟨S2x64x325x64, .f32⟩
  | 2 => ⟨S325x325, .f32⟩
  | 3 => ⟨S325x325, .f32⟩
  | 4 => ⟨S330x128, .f32⟩
  | 5 => ⟨S128, .f32⟩
  | 6 => ⟨S330x64, .f32⟩
  | 7 => ⟨S64, .f32⟩
  | 8 => ⟨S640x128, .f32⟩
  | 9 => ⟨S128, .f32⟩
  | 10 => ⟨S640x64, .f32⟩
  | 11 => ⟨S64, .f32⟩
  | 12 => ⟨S64x2, .f32⟩
  | 13 => ⟨S2, .f32⟩
  | 14 => ⟨S64x1x325x2, .f32⟩
  | 15 => ⟨S64x325x2, .f32⟩
  | 16 => ⟨S1x64x325x64, .f32⟩
  | 17 => ⟨S64x325x64, .f32⟩
  | 18 => ⟨S1x64x325x64, .f32⟩
  | 19 => ⟨S64x325x64, .f32⟩
  | 20 => ⟨S_, .f32⟩
  | 21 => ⟨S64x11x325x2, .f32⟩
  | 22 => ⟨S_, .i32⟩
  | 23 => ⟨S_, .i32⟩
  | 24 => ⟨S325x325, .f32⟩
  | 25 => ⟨S325x325, .f32⟩
  | 26 => ⟨S330x128, .f32⟩
  | 27 => ⟨S128, .f32⟩
  | 28 => ⟨S330x64, .f32⟩
  | 29 => ⟨S64, .f32⟩
  | 30 => ⟨S640x128, .f32⟩
  | 31 => ⟨S128, .f32⟩
  | 32 => ⟨S640x64, .f32⟩
  | 33 => ⟨S64, .f32⟩
  | 34 => ⟨S64x2, .f32⟩
  | 35 => ⟨S2, .f32⟩
  | 36 => ⟨S64x12x325x2, .f32⟩
  | 37 => ⟨S_, .i32⟩
  | 38 => ⟨S_, .i32⟩
  | 39 => ⟨S64x325x2, .f32⟩
  | 40 => ⟨S64x325x64, .f32⟩
  | 41 => ⟨S64x325x64, .f32⟩
  | 42 => ⟨S64x11x325x2, .f32⟩
  | 43 => ⟨S_, .i32⟩
  | 44 => ⟨S_, .i1⟩
  | 45 => ⟨S_, .i32⟩
  | 46 => ⟨S_, .i32⟩
  | 47 => ⟨S64x325x66, .f32⟩
  | 48 => ⟨S64x66x325, .f32⟩
  | 49 => ⟨S64x325x66, .f32⟩
  | 50 => ⟨S64x66x325, .f32⟩
  | 51 => ⟨S64x325x66, .f32⟩
  | 52 => ⟨S_, .f32⟩
  | 53 => ⟨S64x325x66, .f32⟩
  | 54 => ⟨S64x325x66, .f32⟩
  | 55 => ⟨S64x325x66, .f32⟩
  | 56 => ⟨S64x66x325, .f32⟩
  | 57 => ⟨S64x325x66, .f32⟩
  | 58 => ⟨S64x66x325, .f32⟩
  | 59 => ⟨S64x325x66, .f32⟩
  | 60 => ⟨S_, .f32⟩
  | 61 => ⟨S64x325x66, .f32⟩
  | 62 => ⟨S64x325x66, .f32⟩
  | 63 => ⟨S64x325x66, .f32⟩
  | 64 => ⟨S64x325x330, .f32⟩
  | 65 => ⟨S64x325x128, .f32⟩
  | 66 => ⟨S1x1x128, .f32⟩
  | 67 => ⟨S64x325x128, .f32⟩
  | 68 => ⟨S64x325x128, .f32⟩
  | 69 => ⟨S64x325x128, .f32⟩
  | 70 => ⟨S64x325x128, .f32⟩
  | 71 => ⟨S_, .f32⟩
  | 72 => ⟨S64x325x128, .f32⟩
  | 73 => ⟨S64x325x128, .f32⟩
  | 74 => ⟨S_, .f32⟩
  | 75 => ⟨S64x325x128, .f32⟩
  | 76 => ⟨S64x325x128, .f32⟩
  | 77 => ⟨S64x325x64, .f32⟩
  | 78 => ⟨S64x325x64, .f32⟩
  | 79 => ⟨S64x325x64, .f32⟩
  | 80 => ⟨S64x325x66, .f32⟩
  | 81 => ⟨S64x66x325, .f32⟩
  | 82 => ⟨S64x325x66, .f32⟩
  | 83 => ⟨S64x66x325, .f32⟩
  | 84 => ⟨S64x325x66, .f32⟩
  | 85 => ⟨S_, .f32⟩
  | 86 => ⟨S64x325x66, .f32⟩
  | 87 => ⟨S64x325x66, .f32⟩
  | 88 => ⟨S64x325x66, .f32⟩
  | 89 => ⟨S64x66x325, .f32⟩
  | 90 => ⟨S64x325x66, .f32⟩
  | 91 => ⟨S64x66x325, .f32⟩
  | 92 => ⟨S64x325x66, .f32⟩
  | 93 => ⟨S_, .f32⟩
  | 94 => ⟨S64x325x66, .f32⟩
  | 95 => ⟨S64x325x66, .f32⟩
  | 96 => ⟨S64x325x66, .f32⟩
  | 97 => ⟨S64x325x330, .f32⟩
  | 98 => ⟨S64x325x64, .f32⟩
  | 99 => ⟨S1x1x64, .f32⟩
  | 100 => ⟨S64x325x64, .f32⟩
  | 101 => ⟨S64x325x64, .f32⟩
  | 102 => ⟨S64x325x64, .f32⟩
  | 103 => ⟨S64x325x64, .f32⟩
  | 104 => ⟨S_, .f32⟩
  | 105 => ⟨S64x325x64, .f32⟩
  | 106 => ⟨S64x325x64, .f32⟩
  | 107 => ⟨S64x325x64, .f32⟩
  | 108 => ⟨S64x325x64, .f32⟩
  | 109 => ⟨S64x325x128, .f32⟩
  | 110 => ⟨S64x128x325, .f32⟩
  | 111 => ⟨S64x325x128, .f32⟩
  | 112 => ⟨S64x128x325, .f32⟩
  | 113 => ⟨S64x325x128, .f32⟩
  | 114 => ⟨S_, .f32⟩
  | 115 => ⟨S64x325x128, .f32⟩
  | 116 => ⟨S64x325x128, .f32⟩
  | 117 => ⟨S64x325x128, .f32⟩
  | 118 => ⟨S64x128x325, .f32⟩
  | 119 => ⟨S64x325x128, .f32⟩
  | 120 => ⟨S64x128x325, .f32⟩
  | 121 => ⟨S64x325x128, .f32⟩
  | 122 => ⟨S_, .f32⟩
  | 123 => ⟨S64x325x128, .f32⟩
  | 124 => ⟨S64x325x128, .f32⟩
  | 125 => ⟨S64x325x128, .f32⟩
  | 126 => ⟨S64x325x640, .f32⟩
  | 127 => ⟨S64x325x128, .f32⟩
  | _ => ⟨S64x12x325x2, .f32⟩

abbrev hbmTy0_1 (i : Nat) : BufTy := match i % 128 with
  | 0 => ⟨S1x1x128, .f32⟩
  | 1 => ⟨S64x325x128, .f32⟩
  | 2 => ⟨S64x325x128, .f32⟩
  | 3 => ⟨S64x325x128, .f32⟩
  | 4 => ⟨S64x325x128, .f32⟩
  | 5 => ⟨S_, .f32⟩
  | 6 => ⟨S64x325x128, .f32⟩
  | 7 => ⟨S64x325x128, .f32⟩
  | 8 => ⟨S_, .f32⟩
  | 9 => ⟨S64x325x128, .f32⟩
  | 10 => ⟨S64x325x128, .f32⟩
  | 11 => ⟨S64x325x64, .f32⟩
  | 12 => ⟨S64x325x64, .f32⟩
  | 13 => ⟨S64x325x64, .f32⟩
  | 14 => ⟨S64x325x128, .f32⟩
  | 15 => ⟨S64x128x325, .f32⟩
  | 16 => ⟨S64x325x128, .f32⟩
  | 17 => ⟨S64x128x325, .f32⟩
  | 18 => ⟨S64x325x128, .f32⟩
  | 19 => ⟨S_, .f32⟩
  | 20 => ⟨S64x325x128, .f32⟩
  | 21 => ⟨S64x325x128, .f32⟩
  | 22 => ⟨S64x325x128, .f32⟩
  | 23 => ⟨S64x128x325, .f32⟩
  | 24 => ⟨S64x325x128, .f32⟩
  | 25 => ⟨S64x128x325, .f32⟩
  | 26 => ⟨S64x325x128, .f32⟩
  | 27 => ⟨S_, .f32⟩
  | 28 => ⟨S64x325x128, .f32⟩
  | 29 => ⟨S64x325x128, .f32⟩
  | 30 => ⟨S64x325x128, .f32⟩
  | 31 => ⟨S64x325x640, .f32⟩
  | 32 => ⟨S64x325x64, .f32⟩
  | 33 => ⟨S1x1x64, .f32⟩
  | 34 => ⟨S64x325x64, .f32⟩
  | 35 => ⟨S64x325x64, .f32⟩
  | 36 => ⟨S64x325x64, .f32⟩
  | 37 => ⟨S64x325x64, .f32⟩
  | 38 => ⟨S_, .f32⟩
  | 39 => ⟨S64x325x64, .f32⟩
  | 40 => ⟨S64x325x64, .f32⟩
  | 41 => ⟨S64x325x64, .f32⟩
  | 42 => ⟨S64x325x64, .f32⟩
  | 43 => ⟨S64x325x2, .f32⟩
  | 44 => ⟨S1x1x2, .f32⟩
  | 45 => ⟨S64x325x2, .f32⟩
  | 46 => ⟨S64x325x2, .f32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S64x1x325x2, .f32⟩
  | 59 => ⟨S64x325x2, .f32⟩
  | 60 => ⟨S_, .i32⟩
  | 61 => ⟨S_, .i1⟩
  | 62 => ⟨S_, .i32⟩
  | 63 => ⟨S_, .i1⟩
  | 64 => ⟨S_, .i32⟩
  | 65 => ⟨S_, .i1⟩
  | 66 => ⟨S_, .i32⟩
  | 67 => ⟨S_, .i1⟩
  | 68 => ⟨S_, .i32⟩
  | 69 => ⟨S_, .i1⟩
  | 70 => ⟨S_, .i1⟩
  | 71 => ⟨S_, .i1⟩
  | 72 => ⟨S_, .i1⟩
  | 73 => ⟨S_, .i1⟩
  | 74 => ⟨S_, .i1⟩
  | 75 => ⟨S_, .i1⟩
  | 76 => ⟨S_, .i1⟩
  | 77 => ⟨S_, .i1⟩
  | 78 => ⟨S_, .i1⟩
  | 79 => ⟨S_, .i1⟩
  | 80 => ⟨S_, .i1⟩
  | 81 => ⟨S_, .i1⟩
  | 82 => ⟨S_, .i1⟩
  | 83 => ⟨S_, .i1⟩
  | 84 => ⟨S_, .i1⟩
  | 85 => ⟨S_, .i1⟩
  | 86 => ⟨S_, .i1⟩
  | 87 => ⟨S_, .i1⟩
  | 88 => ⟨S_, .i1⟩
  | 89 => ⟨S_, .i1⟩
  | 90 => ⟨S_, .i1⟩
  | 91 => ⟨S_, .i1⟩
  | 92 => ⟨S_, .i1⟩
  | 93 => ⟨S_, .i1⟩
  | 94 => ⟨S64x325x2, .f32⟩
  | 95 => ⟨S11, .i32⟩
  | 96 => ⟨S_, .i32⟩
  | 97 => ⟨S11, .i32⟩
  | 98 => ⟨S11, .i1⟩
  | 99 => ⟨S11x1x1, .i1⟩
  | 100 => ⟨S64x1x325x2, .f32⟩
  | 101 => ⟨S64x11x325x2, .i1⟩
  | 102 => ⟨S64x11x325x2, .f32⟩
  | 103 => ⟨S64x11x325x2, .f32⟩
  | 104 => ⟨S_, .i32⟩
  | 105 => ⟨S_, .i32⟩
  | _ => ⟨S64x12x325x2, .f32⟩

abbrev hbmTy (i : Nat) : BufTy := match i / 128 with
  | 0 => hbmTy0_0 i
  | 1 => hbmTy0_1 i
  | _ => ⟨S64x12x325x2, .f32⟩

abbrev bufTy : (tb : Table) → Fin (tcTables nBuf tb) → BufTy
  | .hbm, ⟨i, _⟩ => hbmTy i
  | _, _ => ⟨S64x12x325x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_c : Ref sig .tc := ⟨.hbm, 22, rfl⟩
abbrev main_c_0 : Ref sig .tc := ⟨.hbm, 23, rfl⟩
abbrev main_v7_0 : Ref sig .tc := ⟨.hbm, 24, rfl⟩
abbrev main_v7_1 : Ref sig .tc := ⟨.hbm, 25, rfl⟩
abbrev main_v7_2 : Ref sig .tc := ⟨.hbm, 26, rfl⟩
abbrev main_v7_3 : Ref sig .tc := ⟨.hbm, 27, rfl⟩
abbrev main_v7_4 : Ref sig .tc := ⟨.hbm, 28, rfl⟩
abbrev main_v7_5 : Ref sig .tc := ⟨.hbm, 29, rfl⟩
abbrev main_v7_6 : Ref sig .tc := ⟨.hbm, 30, rfl⟩
abbrev main_v7_7 : Ref sig .tc := ⟨.hbm, 31, rfl⟩
abbrev main_v7_8 : Ref sig .tc := ⟨.hbm, 32, rfl⟩
abbrev main_v7_9 : Ref sig .tc := ⟨.hbm, 33, rfl⟩
abbrev main_v7_10 : Ref sig .tc := ⟨.hbm, 34, rfl⟩
abbrev main_v7_11 : Ref sig .tc := ⟨.hbm, 35, rfl⟩
abbrev main_v7_12 : Ref sig .tc := ⟨.hbm, 36, rfl⟩
abbrev main_v7_13 : Ref sig .tc := ⟨.hbm, 37, rfl⟩
abbrev main_v7_14 : Ref sig .tc := ⟨.hbm, 38, rfl⟩
abbrev main_v7_15 : Ref sig .tc := ⟨.hbm, 39, rfl⟩
abbrev main_v7_16 : Ref sig .tc := ⟨.hbm, 40, rfl⟩
abbrev main_v7_17 : Ref sig .tc := ⟨.hbm, 41, rfl⟩
abbrev main_v7_18 : Ref sig .tc := ⟨.hbm, 42, rfl⟩
abbrev main_while0c_c_19 : Ref sig .tc := ⟨.hbm, 43, rfl⟩
abbrev main_while0c_v8 : Ref sig .tc := ⟨.hbm, 44, rfl⟩
abbrev main_while0b_c_19 : Ref sig .tc := ⟨.hbm, 45, rfl⟩
abbrev main_while0b_v8 : Ref sig .tc := ⟨.hbm, 46, rfl⟩
abbrev main_while0b_v9 : Ref sig .tc := ⟨.hbm, 47, rfl⟩
abbrev main_while0b_v10 : Ref sig .tc := ⟨.hbm, 48, rfl⟩
abbrev main_while0b_v11 : Ref sig .tc := ⟨.hbm, 49, rfl⟩
abbrev main_while0b_v12 : Ref sig .tc := ⟨.hbm, 50, rfl⟩
abbrev main_while0b_v13 : Ref sig .tc := ⟨.hbm, 51, rfl⟩
abbrev main_while0b_cst_20 : Ref sig .tc := ⟨.hbm, 52, rfl⟩
abbrev main_while0b_v14 : Ref sig .tc := ⟨.hbm, 53, rfl⟩
abbrev main_while0b_v15 : Ref sig .tc := ⟨.hbm, 54, rfl⟩
abbrev main_while0b_v16 : Ref sig .tc := ⟨.hbm, 55, rfl⟩
abbrev main_while0b_v17 : Ref sig .tc := ⟨.hbm, 56, rfl⟩
abbrev main_while0b_v18 : Ref sig .tc := ⟨.hbm, 57, rfl⟩
abbrev main_while0b_v19 : Ref sig .tc := ⟨.hbm, 58, rfl⟩
abbrev main_while0b_v20 : Ref sig .tc := ⟨.hbm, 59, rfl⟩
abbrev main_while0b_cst_21 : Ref sig .tc := ⟨.hbm, 60, rfl⟩
abbrev main_while0b_v21 : Ref sig .tc := ⟨.hbm, 61, rfl⟩
abbrev main_while0b_v22 : Ref sig .tc := ⟨.hbm, 62, rfl⟩
abbrev main_while0b_v23 : Ref sig .tc := ⟨.hbm, 63, rfl⟩
abbrev main_while0b_v24 : Ref sig .tc := ⟨.hbm, 64, rfl⟩
abbrev main_while0b_v25 : Ref sig .tc := ⟨.hbm, 65, rfl⟩
abbrev main_while0b_v26 : Ref sig .tc := ⟨.hbm, 66, rfl⟩
abbrev main_while0b_v27 : Ref sig .tc := ⟨.hbm, 67, rfl⟩
abbrev main_while0b_v28 : Ref sig .tc := ⟨.hbm, 68, rfl⟩
abbrev main_while0b_v29 : Ref sig .tc := ⟨.hbm, 69, rfl⟩
abbrev main_while0b_v30 : Ref sig .tc := ⟨.hbm, 70, rfl⟩
abbrev main_while0b_cst_22 : Ref sig .tc := ⟨.hbm, 71, rfl⟩
abbrev main_while0b_v31 : Ref sig .tc := ⟨.hbm, 72, rfl⟩
abbrev main_while0b_v32 : Ref sig .tc := ⟨.hbm, 73, rfl⟩
abbrev main_while0b_cst_23 : Ref sig .tc := ⟨.hbm, 74, rfl⟩
abbrev main_while0b_v33 : Ref sig .tc := ⟨.hbm, 75, rfl⟩
abbrev main_while0b_v34 : Ref sig .tc := ⟨.hbm, 76, rfl⟩
abbrev main_while0b_v35 : Ref sig .tc := ⟨.hbm, 77, rfl⟩
abbrev main_while0b_v36 : Ref sig .tc := ⟨.hbm, 78, rfl⟩
abbrev main_while0b_v37 : Ref sig .tc := ⟨.hbm, 79, rfl⟩
abbrev main_while0b_v38 : Ref sig .tc := ⟨.hbm, 80, rfl⟩
abbrev main_while0b_v39 : Ref sig .tc := ⟨.hbm, 81, rfl⟩
abbrev main_while0b_v40 : Ref sig .tc := ⟨.hbm, 82, rfl⟩
abbrev main_while0b_v41 : Ref sig .tc := ⟨.hbm, 83, rfl⟩
abbrev main_while0b_v42 : Ref sig .tc := ⟨.hbm, 84, rfl⟩
abbrev main_while0b_cst_24 : Ref sig .tc := ⟨.hbm, 85, rfl⟩
abbrev main_while0b_v43 : Ref sig .tc := ⟨.hbm, 86, rfl⟩
abbrev main_while0b_v44 : Ref sig .tc := ⟨.hbm, 87, rfl⟩
abbrev main_while0b_v45 : Ref sig .tc := ⟨.hbm, 88, rfl⟩
abbrev main_while0b_v46 : Ref sig .tc := ⟨.hbm, 89, rfl⟩
abbrev main_while0b_v47 : Ref sig .tc := ⟨.hbm, 90, rfl⟩
abbrev main_while0b_v48 : Ref sig .tc := ⟨.hbm, 91, rfl⟩
abbrev main_while0b_v49 : Ref sig .tc := ⟨.hbm, 92, rfl⟩
abbrev main_while0b_cst_25 : Ref sig .tc := ⟨.hbm, 93, rfl⟩
abbrev main_while0b_v50 : Ref sig .tc := ⟨.hbm, 94, rfl⟩
abbrev main_while0b_v51 : Ref sig .tc := ⟨.hbm, 95, rfl⟩
abbrev main_while0b_v52 : Ref sig .tc := ⟨.hbm, 96, rfl⟩
abbrev main_while0b_v53 : Ref sig .tc := ⟨.hbm, 97, rfl⟩
abbrev main_while0b_v54 : Ref sig .tc := ⟨.hbm, 98, rfl⟩
abbrev main_while0b_v55 : Ref sig .tc := ⟨.hbm, 99, rfl⟩
abbrev main_while0b_v56 : Ref sig .tc := ⟨.hbm, 100, rfl⟩
abbrev main_while0b_v57 : Ref sig .tc := ⟨.hbm, 101, rfl⟩
abbrev main_while0b_v58 : Ref sig .tc := ⟨.hbm, 102, rfl⟩
abbrev main_while0b_v59 : Ref sig .tc := ⟨.hbm, 103, rfl⟩
abbrev main_while0b_cst_26 : Ref sig .tc := ⟨.hbm, 104, rfl⟩
abbrev main_while0b_v60 : Ref sig .tc := ⟨.hbm, 105, rfl⟩
abbrev main_while0b_v61 : Ref sig .tc := ⟨.hbm, 106, rfl⟩
abbrev main_while0b_v62 : Ref sig .tc := ⟨.hbm, 107, rfl⟩
abbrev main_while0b_v63 : Ref sig .tc := ⟨.hbm, 108, rfl⟩
abbrev main_while0b_v64 : Ref sig .tc := ⟨.hbm, 109, rfl⟩
abbrev main_while0b_v65 : Ref sig .tc := ⟨.hbm, 110, rfl⟩
abbrev main_while0b_v66 : Ref sig .tc := ⟨.hbm, 111, rfl⟩
abbrev main_while0b_v67 : Ref sig .tc := ⟨.hbm, 112, rfl⟩
abbrev main_while0b_v68 : Ref sig .tc := ⟨.hbm, 113, rfl⟩
abbrev main_while0b_cst_27 : Ref sig .tc := ⟨.hbm, 114, rfl⟩
abbrev main_while0b_v69 : Ref sig .tc := ⟨.hbm, 115, rfl⟩
abbrev main_while0b_v70 : Ref sig .tc := ⟨.hbm, 116, rfl⟩
abbrev main_while0b_v71 : Ref sig .tc := ⟨.hbm, 117, rfl⟩
abbrev main_while0b_v72 : Ref sig .tc := ⟨.hbm, 118, rfl⟩
abbrev main_while0b_v73 : Ref sig .tc := ⟨.hbm, 119, rfl⟩
abbrev main_while0b_v74 : Ref sig .tc := ⟨.hbm, 120, rfl⟩
abbrev main_while0b_v75 : Ref sig .tc := ⟨.hbm, 121, rfl⟩
abbrev main_while0b_cst_28 : Ref sig .tc := ⟨.hbm, 122, rfl⟩
abbrev main_while0b_v76 : Ref sig .tc := ⟨.hbm, 123, rfl⟩
abbrev main_while0b_v77 : Ref sig .tc := ⟨.hbm, 124, rfl⟩
abbrev main_while0b_v78 : Ref sig .tc := ⟨.hbm, 125, rfl⟩
abbrev main_while0b_v79 : Ref sig .tc := ⟨.hbm, 126, rfl⟩
abbrev main_while0b_v80 : Ref sig .tc := ⟨.hbm, 127, rfl⟩
abbrev main_while0b_v81 : Ref sig .tc := ⟨.hbm, 128, rfl⟩
abbrev main_while0b_v82 : Ref sig .tc := ⟨.hbm, 129, rfl⟩
abbrev main_while0b_v83 : Ref sig .tc := ⟨.hbm, 130, rfl⟩
abbrev main_while0b_v84 : Ref sig .tc := ⟨.hbm, 131, rfl⟩
abbrev main_while0b_v85 : Ref sig .tc := ⟨.hbm, 132, rfl⟩
abbrev main_while0b_cst_29 : Ref sig .tc := ⟨.hbm, 133, rfl⟩
abbrev main_while0b_v86 : Ref sig .tc := ⟨.hbm, 134, rfl⟩
abbrev main_while0b_v87 : Ref sig .tc := ⟨.hbm, 135, rfl⟩
abbrev main_while0b_cst_30 : Ref sig .tc := ⟨.hbm, 136, rfl⟩
abbrev main_while0b_v88 : Ref sig .tc := ⟨.hbm, 137, rfl⟩
abbrev main_while0b_v89 : Ref sig .tc := ⟨.hbm, 138, rfl⟩
abbrev main_while0b_v90 : Ref sig .tc := ⟨.hbm, 139, rfl⟩
abbrev main_while0b_v91 : Ref sig .tc := ⟨.hbm, 140, rfl⟩
abbrev main_while0b_v92 : Ref sig .tc := ⟨.hbm, 141, rfl⟩
abbrev main_while0b_v93 : Ref sig .tc := ⟨.hbm, 142, rfl⟩
abbrev main_while0b_v94 : Ref sig .tc := ⟨.hbm, 143, rfl⟩
abbrev main_while0b_v95 : Ref sig .tc := ⟨.hbm, 144, rfl⟩
abbrev main_while0b_v96 : Ref sig .tc := ⟨.hbm, 145, rfl⟩
abbrev main_while0b_v97 : Ref sig .tc := ⟨.hbm, 146, rfl⟩
abbrev main_while0b_cst_31 : Ref sig .tc := ⟨.hbm, 147, rfl⟩
abbrev main_while0b_v98 : Ref sig .tc := ⟨.hbm, 148, rfl⟩
abbrev main_while0b_v99 : Ref sig .tc := ⟨.hbm, 149, rfl⟩
abbrev main_while0b_v100 : Ref sig .tc := ⟨.hbm, 150, rfl⟩
abbrev main_while0b_v101 : Ref sig .tc := ⟨.hbm, 151, rfl⟩
abbrev main_while0b_v102 : Ref sig .tc := ⟨.hbm, 152, rfl⟩
abbrev main_while0b_v103 : Ref sig .tc := ⟨.hbm, 153, rfl⟩
abbrev main_while0b_v104 : Ref sig .tc := ⟨.hbm, 154, rfl⟩
abbrev main_while0b_cst_32 : Ref sig .tc := ⟨.hbm, 155, rfl⟩
abbrev main_while0b_v105 : Ref sig .tc := ⟨.hbm, 156, rfl⟩
abbrev main_while0b_v106 : Ref sig .tc := ⟨.hbm, 157, rfl⟩
abbrev main_while0b_v107 : Ref sig .tc := ⟨.hbm, 158, rfl⟩
abbrev main_while0b_v108 : Ref sig .tc := ⟨.hbm, 159, rfl⟩
abbrev main_while0b_v109 : Ref sig .tc := ⟨.hbm, 160, rfl⟩
abbrev main_while0b_v110 : Ref sig .tc := ⟨.hbm, 161, rfl⟩
abbrev main_while0b_v111 : Ref sig .tc := ⟨.hbm, 162, rfl⟩
abbrev main_while0b_v112 : Ref sig .tc := ⟨.hbm, 163, rfl⟩
abbrev main_while0b_v113 : Ref sig .tc := ⟨.hbm, 164, rfl⟩
abbrev main_while0b_v114 : Ref sig .tc := ⟨.hbm, 165, rfl⟩
abbrev main_while0b_cst_33 : Ref sig .tc := ⟨.hbm, 166, rfl⟩
abbrev main_while0b_v115 : Ref sig .tc := ⟨.hbm, 167, rfl⟩
abbrev main_while0b_v116 : Ref sig .tc := ⟨.hbm, 168, rfl⟩
abbrev main_while0b_v117 : Ref sig .tc := ⟨.hbm, 169, rfl⟩
abbrev main_while0b_v118 : Ref sig .tc := ⟨.hbm, 170, rfl⟩
abbrev main_while0b_v119 : Ref sig .tc := ⟨.hbm, 171, rfl⟩
abbrev main_while0b_v120 : Ref sig .tc := ⟨.hbm, 172, rfl⟩
abbrev main_while0b_v121 : Ref sig .tc := ⟨.hbm, 173, rfl⟩
abbrev main_while0b_v122 : Ref sig .tc := ⟨.hbm, 174, rfl⟩
abbrev main_while0b_c_34 : Ref sig .tc := ⟨.hbm, 175, rfl⟩
abbrev main_while0b_v123 : Ref sig .tc := ⟨.hbm, 176, rfl⟩
abbrev main_while0b_call0_c : Ref sig .tc := ⟨.hbm, 177, rfl⟩
abbrev main_while0b_call0_v0 : Ref sig .tc := ⟨.hbm, 178, rfl⟩
abbrev main_while0b_call0_v1 : Ref sig .tc := ⟨.hbm, 179, rfl⟩
abbrev main_while0b_call0_c_0 : Ref sig .tc := ⟨.hbm, 180, rfl⟩
abbrev main_while0b_call0_v2 : Ref sig .tc := ⟨.hbm, 181, rfl⟩
abbrev main_while0b_call0_v3 : Ref sig .tc := ⟨.hbm, 182, rfl⟩
abbrev main_while0b_call0_c_1 : Ref sig .tc := ⟨.hbm, 183, rfl⟩
abbrev main_while0b_call0_c_2 : Ref sig .tc := ⟨.hbm, 184, rfl⟩
abbrev main_while0b_call0_c_3 : Ref sig .tc := ⟨.hbm, 185, rfl⟩
abbrev main_while0b_call0_v4 : Ref sig .tc := ⟨.hbm, 186, rfl⟩
abbrev main_while0b_v124 : Ref sig .tc := ⟨.hbm, 187, rfl⟩
abbrev main_while0b_c_35 : Ref sig .tc := ⟨.hbm, 188, rfl⟩
abbrev main_while0b_v125 : Ref sig .tc := ⟨.hbm, 189, rfl⟩
abbrev main_while0b_c_36 : Ref sig .tc := ⟨.hbm, 190, rfl⟩
abbrev main_while0b_v126 : Ref sig .tc := ⟨.hbm, 191, rfl⟩
abbrev main_while0b_c_37 : Ref sig .tc := ⟨.hbm, 192, rfl⟩
abbrev main_while0b_v127 : Ref sig .tc := ⟨.hbm, 193, rfl⟩
abbrev main_while0b_c_38 : Ref sig .tc := ⟨.hbm, 194, rfl⟩
abbrev main_while0b_v128 : Ref sig .tc := ⟨.hbm, 195, rfl⟩
abbrev main_while0b_c_39 : Ref sig .tc := ⟨.hbm, 196, rfl⟩
abbrev main_while0b_v129 : Ref sig .tc := ⟨.hbm, 197, rfl⟩
abbrev main_while0b_c_40 : Ref sig .tc := ⟨.hbm, 198, rfl⟩
abbrev main_while0b_v130 : Ref sig .tc := ⟨.hbm, 199, rfl⟩
abbrev main_while0b_v131 : Ref sig .tc := ⟨.hbm, 200, rfl⟩
abbrev main_while0b_v132 : Ref sig .tc := ⟨.hbm, 201, rfl⟩
abbrev main_while0b_c_41 : Ref sig .tc := ⟨.hbm, 202, rfl⟩
abbrev main_while0b_v133 : Ref sig .tc := ⟨.hbm, 203, rfl⟩
abbrev main_while0b_v134 : Ref sig .tc := ⟨.hbm, 204, rfl⟩
abbrev main_while0b_v135 : Ref sig .tc := ⟨.hbm, 205, rfl⟩
abbrev main_while0b_v136 : Ref sig .tc := ⟨.hbm, 206, rfl⟩
abbrev main_while0b_c_42 : Ref sig .tc := ⟨.hbm, 207, rfl⟩
abbrev main_while0b_v137 : Ref sig .tc := ⟨.hbm, 208, rfl⟩
abbrev main_while0b_v138 : Ref sig .tc := ⟨.hbm, 209, rfl⟩
abbrev main_while0b_v139 : Ref sig .tc := ⟨.hbm, 210, rfl⟩
abbrev main_while0b_v140 : Ref sig .tc := ⟨.hbm, 211, rfl⟩
abbrev main_while0b_c_43 : Ref sig .tc := ⟨.hbm, 212, rfl⟩
abbrev main_while0b_v141 : Ref sig .tc := ⟨.hbm, 213, rfl⟩
abbrev main_while0b_v142 : Ref sig .tc := ⟨.hbm, 214, rfl⟩
abbrev main_while0b_v143 : Ref sig .tc := ⟨.hbm, 215, rfl⟩
abbrev main_while0b_v144 : Ref sig .tc := ⟨.hbm, 216, rfl⟩
abbrev main_while0b_c_44 : Ref sig .tc := ⟨.hbm, 217, rfl⟩
abbrev main_while0b_v145 : Ref sig .tc := ⟨.hbm, 218, rfl⟩
abbrev main_while0b_v146 : Ref sig .tc := ⟨.hbm, 219, rfl⟩
abbrev main_while0b_v147 : Ref sig .tc := ⟨.hbm, 220, rfl⟩
abbrev main_while0b_v148 : Ref sig .tc := ⟨.hbm, 221, rfl⟩
abbrev main_while0b_v149 : Ref sig .tc := ⟨.hbm, 222, rfl⟩
abbrev main_while0b_v150 : Ref sig .tc := ⟨.hbm, 223, rfl⟩
abbrev main_while0b_v151 : Ref sig .tc := ⟨.hbm, 224, rfl⟩
abbrev main_while0b_v152 : Ref sig .tc := ⟨.hbm, 225, rfl⟩
abbrev main_while0b_v153 : Ref sig .tc := ⟨.hbm, 226, rfl⟩
abbrev main_while0b_v154 : Ref sig .tc := ⟨.hbm, 227, rfl⟩
abbrev main_while0b_v155 : Ref sig .tc := ⟨.hbm, 228, rfl⟩
abbrev main_while0b_call2_v0 : Ref sig .tc := ⟨.hbm, 229, rfl⟩
abbrev main_while0b_call2_v1 : Ref sig .tc := ⟨.hbm, 230, rfl⟩
abbrev main_while0b_v156 : Ref sig .tc := ⟨.hbm, 231, rfl⟩
abbrev main_while0b_c_45 : Ref sig .tc := ⟨.hbm, 232, rfl⟩
abbrev main_while0b_v157 : Ref sig .tc := ⟨.hbm, 233, rfl⟩

abbrev nD : Nat := 1
abbrev τ : Topo := Topo.v7x

variable {F : FTy → Type} [FloatOps F]

abbrev main_while0_count : Scf.Loop 32 := ⟨0#32, 11#32, 1#32⟩
-- ==== Proof.Recur.lean ====
/-
  The recurrence over the real numbers: the graph convolution of a vertex signal, the gated cell built on it, and the
  decoder's step. Both programs are compared with these functions. Nothing here mentions a program.
-/
module

public import Idealize.ShloMosaic.Lib.Pointwise

@[expose] public section

noncomputable section

namespace Cert.Dcrnn

open Idealize.ShloMosaic

/-! ### Finite sums and the two bounded functions -/

/-- The real numbers inside the extended ones keep finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logistic function of an extended real, as a real number. -/
def sg (x : EReal) : ℝ := (Ideal.logistic x).toReal

/-- The hyperbolic tangent of an extended real, as a real number. -/
def th (x : EReal) : ℝ := (Ideal.tanh x).toReal

/-- The logistic function is finite everywhere, the infinities included. -/
theorem coe_sg (x : EReal) : Ideal.logistic x = ((sg x : ℝ) : EReal) := by
  unfold sg
  induction x using EReal.rec with
  | bot =>
    have h1 : Ideal.logistic ⊥ = ((0 : ℝ) : EReal) := by
      have he : Ideal.exp (-(⊥ : EReal)) = ⊤ := by rw [EReal.neg_bot]; rfl
      unfold Ideal.logistic Ideal.div
      rw [he, ← EReal.coe_one, EReal.coe_add_top, if_neg (by simp), EReal.inv_top, mul_zero, EReal.coe_zero]
    rw [h1, EReal.toReal_coe]
  | top =>
    have h1 : Ideal.logistic ⊤ = ((1 : ℝ) : EReal) := by
      have he : Ideal.exp (-(⊤ : EReal)) = 0 := by rw [EReal.neg_top]; rfl
      unfold Ideal.logistic Ideal.div
      rw [he, add_zero, if_neg one_ne_zero, one_mul, ← EReal.coe_one, ← EReal.coe_inv, inv_one]
    rw [h1, EReal.toReal_coe]
  | coe r =>
    have h1 : Ideal.logistic (r : EReal) = (((1 + Real.exp (-r))⁻¹ : ℝ) : EReal) := by
      have hp : (1 + Real.exp (-r)) ≠ 0 := by positivity
      have he : Ideal.exp (-(r : EReal)) = ((Real.exp (-r) : ℝ) : EReal) := by
        rw [← EReal.coe_neg]; rfl
      unfold Ideal.logistic Ideal.div
      rw [he, ← EReal.coe_one, ← EReal.coe_add, if_neg (by exact_mod_cast hp), ← EReal.coe_inv, ← EReal.coe_mul, one_mul]
    rw [h1, EReal.toReal_coe]

/-- So is the hyperbolic tangent. -/
theorem coe_th (x : EReal) : Ideal.tanh x = ((th x : ℝ) : EReal) := by
  unfold th
  induction x using EReal.rec with
  | bot =>
    have h1 : Ideal.tanh ⊥ = ((-1 : ℝ) : EReal) := by rw [EReal.coe_neg, EReal.coe_one]; rfl
    rw [h1, EReal.toReal_coe]
  | top =>
    have h1 : Ideal.tanh ⊤ = ((1 : ℝ) : EReal) := by rw [EReal.coe_one]; rfl
    rw [h1, EReal.toReal_coe]
  | coe r =>
    have h1 : Ideal.tanh (r : EReal) = ((Real.tanh r : ℝ) : EReal) := rfl
    rw [h1, EReal.toReal_coe]

/-- The pattern of the constant two. -/
theorem two : Ideal.ofBits FTy.f32 0x40000000#32 = ((2 : ℝ) : EReal) := by
  simp [Ideal.ofBits, Ideal.ieee, -EReal.coe_mul]; norm_num

/-! ### The graph convolution -/

variable {n w w' : ℕ}

/-- A support applied to a signal. -/
def prop (A : Fin n → Fin n → ℝ) (X : Fin n → Fin w → ℝ) : Fin n → Fin w → ℝ := fun i c => ∑ m, A i m * X m c

/-- The second Chebyshev term of a support applied to a signal. -/
def cheb (A : Fin n → Fin n → ℝ) (X : Fin n → Fin w → ℝ) : Fin n → Fin w → ℝ :=
  fun i c => 2 * prop A (prop A X) i c - X i c

/-- One output channel of the convolution: the signal and its four propagated forms, each contracted with its own
    column of weights. -/
def lin (A0 A1 : Fin n → Fin n → ℝ) (W : Fin 5 → Fin w → ℝ) (X : Fin n → Fin w → ℝ) (i : Fin n) : ℝ :=
  (∑ q, X i q * W 0 q) + (∑ q, prop A0 X i q * W 1 q) + (∑ q, cheb A0 X i q * W 2 q)
    + (∑ q, prop A1 X i q * W 3 q) + (∑ q, cheb A1 X i q * W 4 q)

/-- Contracting with weights and propagating commute. -/
theorem prop_contract (A : Fin n → Fin n → ℝ) (X : Fin n → Fin w → ℝ) (W : Fin w → ℝ) (i : Fin n) :
    ∑ m, A i m * ∑ q, X m q * W q = ∑ q, prop A X i q * W q := by
  simp only [prop, Finset.mul_sum, Finset.sum_mul]
  rw [Finset.sum_comm]
  exact Finset.sum_congr rfl fun q _ => Finset.sum_congr rfl fun m _ => by ring

/-- The support's second Chebyshev matrix applied after the contraction is the second Chebyshev term contracted. -/
theorem cheb_contract (A : Fin n → Fin n → ℝ) (X : Fin n → Fin w → ℝ) (W : Fin w → ℝ) (i : Fin n) :
    ∑ m, (2 * (∑ l, A i l * A l m) - if i = m then 1 else 0) * ∑ q, X m q * W q = ∑ q, cheb A X i q * W q := by
  have e1 : ∀ m, (2 * (∑ l, A i l * A l m) - if i = m then (1 : ℝ) else 0) * ∑ q, X m q * W q
      = 2 * (∑ l, A i l * A l m) * (∑ q, X m q * W q) - (if i = m then ∑ q, X m q * W q else 0) := by
    intro m; rw [sub_mul, ite_mul, one_mul, zero_mul]
  simp only [e1, Finset.sum_sub_distrib, Finset.sum_ite_eq, Finset.mem_univ, if_true]
  have e2 : ∑ m, 2 * (∑ l, A i l * A l m) * (∑ q, X m q * W q) = 2 * ∑ q, prop A (prop A X) i q * W q := by
    rw [← prop_contract A (prop A X) W i]
    have e3 : ∀ l, ∑ q, prop A X l q * W q = ∑ m, A l m * ∑ q, X m q * W q := fun l => (prop_contract A X W l).symm
    simp only [e3]
    simp only [mul_assoc, ← Finset.mul_sum]
    congr 1
    generalize (fun m => ∑ q, X m q * W q) = v
    simp only [Finset.sum_mul]
    rw [Finset.sum_comm]
    exact Finset.sum_congr rfl fun l _ => by
      rw [Finset.mul_sum]; exact Finset.sum_congr rfl fun m _ => mul_assoc _ _ _
  rw [e2, Finset.mul_sum, ← Finset.sum_sub_distrib]
  exact Finset.sum_congr rfl fun q _ => by simp only [cheb]; ring

/-- The convolution in the other order: contract with the weights first, then apply the support matrices. -/
theorem lin_contract (A0 A1 : Fin n → Fin n → ℝ) (W : Fin 5 → Fin w → ℝ) (X : Fin n → Fin w → ℝ) (i : Fin n) :
    (∑ q, X i q * W 0 q) + (∑ m, A0 i m * ∑ q, X m q * W 1 q)
      + (∑ m, (2 * (∑ l, A0 i l * A0 l m) - if i = m then 1 else 0) * ∑ q, X m q * W 2 q)
      + (∑ m, A1 i m * ∑ q, X m q * W 3 q)
      + (∑ m, (2 * (∑ l, A1 i l * A1 l m) - if i = m then 1 else 0) * ∑ q, X m q * W 4 q)
      = lin A0 A1 W X i := by
  rw [prop_contract, prop_contract, cheb_contract, cheb_contract]; rfl

/-- A sum over a larger index set whose extra terms vanish. -/
theorem sum_pad (e : Fin w → Fin w') (he : Function.Injective e) (f : Fin w' → ℝ)
    (h0 : ∀ p, (∀ q, e q ≠ p) → f p = 0) : ∑ p, f p = ∑ q, f (e q) := by
  classical
  rw [← Finset.sum_image (s := Finset.univ) (g := e) (f := f) (fun a _ b _ h => he h)]
  refine (Finset.sum_subset (Finset.subset_univ _) fun p _ hp => h0 p fun q hq => hp ?_).symm
  exact Finset.mem_image.2 ⟨q, Finset.mem_univ _, hq⟩

/-- A sum over five equal stretches. -/
theorem sum_five {M : Type*} [AddCommMonoid M] {v w : ℕ} (hv : v = 5 * w) (f : Fin v → M) :
    ∑ x, f x = ∑ k : Fin 5, ∑ q : Fin w, f ⟨k.val * w + q.val, by
      have h1 := Nat.mul_le_mul_right w (show k.val ≤ 4 by omega); have h2 := q.isLt; omega⟩ := by
  subst hv
  rw [← (finProdFinEquiv (m := 5) (n := w)).sum_comp, Fintype.sum_prod_type]
  refine Finset.sum_congr rfl fun k _ => Finset.sum_congr rfl fun q _ => congrArg f (Fin.ext ?_)
  show q.val + w * k.val = k.val * w + q.val
  rw [Nat.mul_comm, Nat.add_comm]

/-- Channels whose weights are zero do not matter. -/
theorem lin_pad (A0 A1 : Fin n → Fin n → ℝ) (e : Fin w → Fin w') (he : Function.Injective e)
    (W : Fin 5 → Fin w → ℝ) (W' : Fin 5 → Fin w' → ℝ) (X : Fin n → Fin w → ℝ) (X' : Fin n → Fin w' → ℝ)
    (hX : ∀ i q, X' i (e q) = X i q) (hW : ∀ k q, W' k (e q) = W k q)
    (hW0 : ∀ k p, (∀ q, e q ≠ p) → W' k p = 0) (i : Fin n) : lin A0 A1 W' X' i = lin A0 A1 W X i := by
  have hp : ∀ (A : Fin n → Fin n → ℝ) i q, prop A X' i (e q) = prop A X i q := fun A i q => by
    simp only [prop, hX]
  have hpp : ∀ (A : Fin n → Fin n → ℝ) i q, prop A (prop A X') i (e q) = prop A (prop A X) i q := fun A i q => by
    simp only [prop, hX]
  have hc : ∀ (A : Fin n → Fin n → ℝ) i q, cheb A X' i (e q) = cheb A X i q := fun A i q => by
    simp only [cheb, hpp, hX]
  have hs : ∀ (k : Fin 5) (Y : Fin n → Fin w' → ℝ), ∑ p, Y i p * W' k p = ∑ q, Y i (e q) * W k q := fun k Y => by
    rw [sum_pad e he _ fun p h => by rw [hW0 k p h, mul_zero]]
    exact Finset.sum_congr rfl fun q _ => by rw [hW]
  simp only [lin, hs, hX, hp, hc]

/-! ### The gated cell -/

/-- Two signals side by side, the second of 64 channels. -/
def cat {w : ℕ} (v : ℕ) (x : Fin n → Fin w → ℝ) (h : Fin n → Fin 64 → ℝ) : Fin n → Fin v → ℝ := fun i q =>
  if hq : q.val < w then x i ⟨q.val, hq⟩ else if hr : q.val - w < 64 then h i ⟨q.val - w, hr⟩ else 0

/-- The weights and biases of one cell: both gates' (reset in the first 64 output channels, update in the last) and the
    candidate's. -/
structure Cell (v : ℕ) where
  Wg : Fin 5 → Fin v → Fin 128 → ℝ
  bg : Fin 128 → EReal
  Wc : Fin 5 → Fin v → Fin 64 → ℝ
  bc : Fin 64 → EReal

/-- Both gates. -/
def gates {v : ℕ} (A0 A1 : Fin n → Fin n → ℝ) (C : Cell v) (x : Fin n → Fin w → ℝ) (h : Fin n → Fin 64 → ℝ) :
    Fin n → Fin 128 → ℝ := fun i o =>
  sg (C.bg o + ((lin A0 A1 (fun k q => C.Wg k q o) (cat v x h) i : ℝ) : EReal))

/-- The reset gate times the state. -/
def reset {v : ℕ} (A0 A1 : Fin n → Fin n → ℝ) (C : Cell v) (x : Fin n → Fin w → ℝ) (h : Fin n → Fin 64 → ℝ) :
    Fin n → Fin 64 → ℝ := fun i o => gates A0 A1 C x h i ⟨o.val, by omega⟩ * h i o

/-- The candidate. -/
def cand {v : ℕ} (A0 A1 : Fin n → Fin n → ℝ) (C : Cell v) (x : Fin n → Fin w → ℝ) (h : Fin n → Fin 64 → ℝ) :
    Fin n → Fin 64 → ℝ := fun i o =>
  th (C.bc o + ((lin A0 A1 (fun k q => C.Wc k q o) (cat v x (reset A0 A1 C x h)) i : ℝ) : EReal))

/-- The cell's new state. -/
def gru {v : ℕ} (A0 A1 : Fin n → Fin n → ℝ) (C : Cell v) (x : Fin n → Fin w → ℝ) (h : Fin n → Fin 64 → ℝ) :
    Fin n → Fin 64 → ℝ := fun i o =>
  gates A0 A1 C x h i ⟨64 + o.val, by omega⟩ * h i o
    + (1 - gates A0 A1 C x h i ⟨64 + o.val, by omega⟩) * cand A0 A1 C x h i o

/-- A two-channel signal widened with zeros. -/
def widen (x : Fin n → Fin 2 → ℝ) : Fin n → Fin 64 → ℝ := fun i c => if h : c.val < 2 then x i ⟨c.val, h⟩ else 0

/-- A cell's weights widened alike: the rows of the added channels are zero. -/
def Cell.widen (C : Cell 66) : Cell 128 where
  Wg k p o := if h : p.val < 2 then C.Wg k ⟨p.val, by omega⟩ o else if p.val < 64 then 0 else C.Wg k ⟨p.val - 62, by omega⟩ o
  bg := C.bg
  Wc k p o := if h : p.val < 2 then C.Wc k ⟨p.val, by omega⟩ o else if p.val < 64 then 0 else C.Wc k ⟨p.val - 62, by omega⟩ o
  bc := C.bc

/-- Where the 66 channels sit among the 128. -/
def spot (q : Fin 66) : Fin 128 := if q.val < 2 then ⟨q.val, by omega⟩ else ⟨q.val + 62, by omega⟩

theorem spot_val (q : Fin 66) : (spot q).val = if q.val < 2 then q.val else q.val + 62 := by
  unfold spot; split <;> rfl

theorem spot_inj : Function.Injective spot := fun a b h => by
  have h' := congrArg Fin.val h
  rw [spot_val, spot_val] at h'
  apply Fin.ext
  split at h' <;> split at h' <;> omega

theorem not_spot {p : Fin 128} (h : ∀ q, spot q ≠ p) : 2 ≤ p.val ∧ p.val < 64 := by
  by_contra hc
  by_cases h2 : p.val < 2
  · refine h ⟨p.val, by omega⟩ (Fin.ext ?_)
    rw [spot_val, if_pos h2]
  · have h64 : 64 ≤ p.val := by omega
    refine h ⟨p.val - 62, by omega⟩ (Fin.ext ?_)
    rw [spot_val, if_neg (by dsimp only; omega)]; dsimp only; omega

theorem cat_widen (x : Fin n → Fin 2 → ℝ) (h : Fin n → Fin 64 → ℝ) (i : Fin n) (q : Fin 66) :
    cat 128 (widen x) h i (spot q) = cat 66 x h i q := by
  have hv := spot_val q
  unfold cat widen
  by_cases hq : q.val < 2
  · rw [if_pos hq] at hv
    rw [dif_pos (by omega : (spot q).val < 64), dif_pos hq]
    simp only [hv, hq, dite_true]
  · rw [if_neg hq] at hv
    rw [dif_neg (by omega : ¬ (spot q).val < 64), dif_neg hq, dif_pos (by omega), dif_pos (by omega)]
    congr 1; apply Fin.ext; dsimp only; omega

/-- What the widened weights do with a widened signal is what the weights do with the signal. -/
theorem lin_widen {O : Type*} (A0 A1 : Fin n → Fin n → ℝ) (W : Fin 5 → Fin 66 → O → ℝ) (x : Fin n → Fin 2 → ℝ) (h : Fin n → Fin 64 → ℝ)
    (i : Fin n) (o : O) :
    lin A0 A1 (fun k (p : Fin 128) => if hp : p.val < 2 then W k ⟨p.val, by omega⟩ o
        else if p.val < 64 then 0 else W k ⟨p.val - 62, by omega⟩ o) (cat 128 (widen x) h) i
      = lin A0 A1 (fun k q => W k q o) (cat 66 x h) i := by
  refine lin_pad A0 A1 spot spot_inj _ _ _ _ (cat_widen x h) (fun k q => ?_) (fun k p hp => ?_) i
  · have hv := spot_val q
    by_cases hq : q.val < 2
    · rw [if_pos hq] at hv
      simp only [hv, hq, dite_true]
    · rw [if_neg hq] at hv
      rw [dif_neg (by omega), if_neg (by omega)]
      congr 1; apply Fin.ext; dsimp only; omega
  · obtain ⟨h1, h2⟩ := not_spot hp
    rw [dif_neg (by omega), if_pos h2]

theorem gates_widen (A0 A1 : Fin n → Fin n → ℝ) (C : Cell 66) (x : Fin n → Fin 2 → ℝ) (h : Fin n → Fin 64 → ℝ) :
    gates A0 A1 C.widen (widen x) h = gates A0 A1 C x h := by
  funext i o
  exact congrArg (fun r : ℝ => sg (C.bg o + (r : EReal))) (lin_widen A0 A1 C.Wg x h i o)

/-- The cell of widened weights on a widened input is the cell. -/
theorem gru_widen (A0 A1 : Fin n → Fin n → ℝ) (C : Cell 66) (x : Fin n → Fin 2 → ℝ) (h : Fin n → Fin 64 → ℝ) :
    gru A0 A1 C.widen (widen x) h = gru A0 A1 C x h := by
  have hr : reset A0 A1 C.widen (widen x) h = reset A0 A1 C x h := by
    funext i o; simp only [reset, gates_widen]
  have hc : cand A0 A1 C.widen (widen x) h = cand A0 A1 C x h := by
    funext i o
    unfold cand
    rw [hr]
    exact congrArg (fun r : ℝ => th (C.bc o + (r : EReal))) (lin_widen A0 A1 C.Wc x _ i o)
  funext i o
  simp only [gru, gates_widen, hc]

/-! ### The decoder -/

/-- Everything the decoder reads: supports, both layers' weights, the projection, the recorded sequence and the
    initial states, all finite but the gates' biases. -/
structure Par where
  A0 : Fin 325 → Fin 325 → ℝ
  A1 : Fin 325 → Fin 325 → ℝ
  C0 : Cell 66
  C1 : Cell 128
  Wp : Fin 64 → Fin 2 → ℝ
  bp : Fin 2 → ℝ
  inp : Fin 64 → Fin 12 → Fin 325 → Fin 2 → ℝ
  ini : Fin 2 → Fin 64 → Fin 325 → Fin 64 → ℝ

/-- What one step hands the next: the next input and both layers' states, per batch row. -/
structure St where
  cur : Fin 64 → Fin 325 → Fin 2 → ℝ
  s0 : Fin 64 → Fin 325 → Fin 64 → ℝ
  s1 : Fin 64 → Fin 325 → Fin 64 → ℝ

/-- The steps after which the recorded sequence is fed, not the prediction. -/
def forced (t : ℕ) : Bool := t == 0 || t == 4 || t == 5 || t == 6 || t == 10

variable (P : Par)

def St.h0 (s : St) : Fin 64 → Fin 325 → Fin 64 → ℝ := fun b => gru P.A0 P.A1 P.C0 (s.cur b) (s.s0 b)

def St.h1 (s : St) : Fin 64 → Fin 325 → Fin 64 → ℝ := fun b => gru P.A0 P.A1 P.C1 (s.h0 P b) (s.s1 b)

/-- The step's prediction. -/
def St.proj (s : St) : Fin 64 → Fin 325 → Fin 2 → ℝ := fun b i c => (∑ q, s.h1 P b i q * P.Wp q c) + P.bp c

/-- The recorded sequence at any natural number, zero past its end. -/
def Par.seq (t : ℕ) : Fin 64 → Fin 325 → Fin 2 → ℝ := fun b i c => if h : t < 12 then P.inp b ⟨t, h⟩ i c else 0

/-- One step. -/
def St.next (t : ℕ) (s : St) : St where
  cur := if forced t then P.seq (t + 1) else s.proj P
  s0 := s.h0 P
  s1 := s.h1 P

/-- The state before step `t`. -/
def st : ℕ → St
  | 0 => ⟨P.seq 0, P.ini 0, P.ini 1⟩
  | t + 1 => (st t).next P t

end Cert.Dcrnn
-- ==== Proof.KConv.lean ====
/-
  The kernel's graph convolution read at an index: contract with the prepared weights, then apply the four support
  matrices to the slices of the product.
-/
module

public import proofs.«01_k».proof.Proof.Gen.KernelIdeal.Skeleton
public import proofs.«01_k».proof.Proof.Recur
public import Idealize.ShloMosaic.Lib.Pointwise

@[expose] public section

set_option maxRecDepth 16384

noncomputable section

open Idealize.ShloMosaic Idealize.ShloMosaic.TcCoe Idealize.SL.Sem

namespace Cert.KernelIdeal.Conv

open Cert.KernelIdeal Cert.KernelIdeal.Gen Cert.Dcrnn

/-- The gates' convolution (128 output channels) as the kernel spells it. -/
def conv128 (A0 C0 A1 C1 : FVec Ideal S325x325 .bf16) (bias : FVec Ideal S1x1x128 .f32) (x : FVec Ideal S325x16x128 .f32)
    (w : FVec Ideal S128x640 .f32) : FVec Ideal S325x16x128 .f32 :=
  let y : FVec Ideal S325x16x640 .f32 := matmul (φ₁ := .bf16) (φ₂ := .bf16) dot_S325x16x128_S128x640_S325x16x640_2_0_01_1_n_n none
    (truncf .bf16 x bitsLt_bf16_f32) (truncf .bf16 (shapeCast S128x640 w shapeCasts_S128x640_S128x640) bitsLt_bf16_f32)
    (constant S325x16x640 .f32 0x00000000#32)
  let z : FVec Ideal S325x16x128 .f32 := constant S325x16x128 .f32 0x00000000#32
  addf (addf (addf (addf (addf (broadcastTo S325x16x128 bias broadcasts_S1x1x128_S325x16x128)
      (extractStridedSlice S325x16x128 ![0, 0, 0] y slices_S325x16x640_o0_0_0_S325x16x128))
    (matmul dot_S325x325_S325x16x128_S325x16x128_1_0_0_12_n_n none A0
      (truncf .bf16 (extractStridedSlice S325x16x128 ![0, 0, 128] y slices_S325x16x640_o0_0_128_S325x16x128) bitsLt_bf16_f32) z))
    (matmul dot_S325x325_S325x16x128_S325x16x128_1_0_0_12_n_n none C0
      (truncf .bf16 (extractStridedSlice S325x16x128 ![0, 0, 256] y slices_S325x16x640_o0_0_256_S325x16x128) bitsLt_bf16_f32) z))
    (matmul dot_S325x325_S325x16x128_S325x16x128_1_0_0_12_n_n none A1
      (truncf .bf16 (extractStridedSlice S325x16x128 ![0, 0, 384] y slices_S325x16x640_o0_0_384_S325x16x128) bitsLt_bf16_f32) z))
    (matmul dot_S325x325_S325x16x128_S325x16x128_1_0_0_12_n_n none C1
      (truncf .bf16 (extractStridedSlice S325x16x128 ![0, 0, 512] y slices_S325x16x640_o0_0_512_S325x16x128) bitsLt_bf16_f32) z)

/-- The candidate's convolution (64 output channels). -/
def conv64 (A0 C0 A1 C1 : FVec Ideal S325x325 .bf16) (bias : FVec Ideal S1x1x64 .f32) (x : FVec Ideal S325x16x128 .f32)
    (w : FVec Ideal S128x320 .f32) : FVec Ideal S325x16x64 .f32 :=
  let y : FVec Ideal S325x16x320 .f32 := matmul (φ₁ := .bf16) (φ₂ := .bf16) dot_S325x16x128_S128x320_S325x16x320_2_0_01_1_n_n none
    (truncf .bf16 x bitsLt_bf16_f32) (truncf .bf16 (shapeCast S128x320 w shapeCasts_S128x320_S128x320) bitsLt_bf16_f32)
    (constant S325x16x320 .f32 0x00000000#32)
  let z : FVec Ideal S325x16x64 .f32 := constant S325x16x64 .f32 0x00000000#32
  addf (addf (addf (addf (addf (broadcastTo S325x16x64 bias broadcasts_S1x1x64_S325x16x64)
      (extractStridedSlice S325x16x64 ![0, 0, 0] y slices_S325x16x320_o0_0_0_S325x16x64))
    (matmul dot_S325x325_S325x16x64_S325x16x64_1_0_0_12_n_n none A0
      (truncf .bf16 (extractStridedSlice S325x16x64 ![0, 0, 64] y slices_S325x16x320_o0_0_64_S325x16x64) bitsLt_bf16_f32) z))
    (matmul dot_S325x325_S325x16x64_S325x16x64_1_0_0_12_n_n none C0
      (truncf .bf16 (extractStridedSlice S325x16x64 ![0, 0, 128] y slices_S325x16x320_o0_0_128_S325x16x64) bitsLt_bf16_f32) z))
    (matmul dot_S325x325_S325x16x64_S325x16x64_1_0_0_12_n_n none A1
      (truncf .bf16 (extractStridedSlice S325x16x64 ![0, 0, 192] y slices_S325x16x320_o0_0_192_S325x16x64) bitsLt_bf16_f32) z))
    (matmul dot_S325x325_S325x16x64_S325x16x64_1_0_0_12_n_n none C1
      (truncf .bf16 (extractStridedSlice S325x16x64 ![0, 0, 256] y slices_S325x16x320_o0_0_256_S325x16x64) bitsLt_bf16_f32) z)

/-- A whole cell. -/
def cell (A0 C0 A1 C1 : FVec Ideal S325x325 .bf16) (bg : FVec Ideal S1x1x128 .f32) (bc : FVec Ideal S1x1x64 .f32)
    (wg : FVec Ideal S128x640 .f32) (wc : FVec Ideal S128x320 .f32) (x h : FVec Ideal S325x16x64 .f32) : FVec Ideal S325x16x64 .f32 :=
  let g : FVec Ideal S325x16x128 .f32 := logistic (conv128 A0 C0 A1 C1 bg
    (concatenate S325x16x128 2 [⟨S325x16x64, x⟩, ⟨S325x16x64, h⟩] concatenates_S325x16x64_S325x16x64_S325x16x128_d2) wg)
  let r : FVec Ideal S325x16x64 .f32 := extractStridedSlice S325x16x64 ![0, 0, 0] g slices_S325x16x128_o0_0_0_S325x16x64
  let u : FVec Ideal S325x16x64 .f32 := extractStridedSlice S325x16x64 ![0, 0, 64] g slices_S325x16x128_o0_0_64_S325x16x64
  let c : FVec Ideal S325x16x64 .f32 := tanh (conv64 A0 C0 A1 C1 bc
    (concatenate S325x16x128 2 [⟨S325x16x64, x⟩, ⟨S325x16x64, mulf r h⟩] concatenates_S325x16x64_S325x16x64_S325x16x128_d2) wc)
  addf (mulf u h) (mulf (subf (broadcast S325x16x64 (Scalar.ofBits .f32 0x3F800000#32)) u) c)

/-- The next input: the recorded block where the step is forced, the prediction else. -/
abbrev nxt (p : FVec Ideal S325x16x2 .f32) (f : Ideal .f32) (v : Vec Ideal S1x1x325x32 .f32) : FVec Ideal S325x16x64 .f32 :=
  k0_pay4 p f (k0_pay18 v) k0_pay19

section
variable (v15 v16 v17 v18 : FVec Ideal S325x325 .bf16) (v21 v27 : FVec Ideal S1x1x128 .f32) (v24 v30 : FVec Ideal S1x1x64 .f32)
  (v33 : FVec Ideal S1x1x2 .f32) (v34 : Vec Ideal S64x2 .f32) (x h h' : FVec Ideal S325x16x64 .f32)
  (w48 w108 : Vec Ideal S128x640 .f32) (w77 w137 : Vec Ideal S128x320 .f32)

/-- The first layer's new state is the cell of the carried input and state. -/
theorem pay10_eq : k0_pay10 (F := Ideal) v17 v18 h (k0_pay6 v15 v16 v17 v18 v21 x h w48) (k0_pay7 v15 v16 v17 v18 v21 x h w48 w77)
      (k0_pay8 v15 v16 v17 v18 v21 v24 x h w48 w77) (k0_pay9 v15 v16 v17 v18 v21 x h w48 w77)
    = cell v15 v16 v17 v18 v21 v24 w48 w77 x h := rfl

/-- The second layer's new state is the cell of the first layer's and the carried state. -/
theorem pay15_eq (a74 : FVec Ideal S325x16x64 .f32) (a81 : FVec Ideal S325x16x320 .f32) (a92 a93 : FVec Ideal S325x16x64 .f32) :
    k0_pay15 (F := Ideal) v15 v16 v17 v18 v30 h' (k0_pay12 v15 v16 v17 v18 v27 h h' a74 a81 a92 a93 w108)
      (k0_pay13 v15 v16 v17 v18 v27 h h' a74 a81 a92 a93 w108) (k0_pay14 w137) (constant S325x16x320 .f32 0x00000000#32)
    = cell v15 v16 v17 v18 v27 v30 w108 w137 (k0_pay10 v17 v18 h a74 a81 a92 a93) h' := rfl
end

/-! ### At an index -/

variable {A0 C0 A1 C1 : FVec Ideal S325x325 .bf16} {a0 a1 : Fin 325 → Fin 325 → ℝ}

/-- The four support matrices hold the supports and their second Chebyshev matrices. -/
structure Supports (A0 C0 A1 C1 : FVec Ideal S325x325 .bf16) (a0 a1 : Fin 325 → Fin 325 → ℝ) : Prop where
  h0 : ∀ i j, A0 (ix2 i j) = ((a0 i j : ℝ) : EReal)
  hc0 : ∀ i j, C0 (ix2 i j) = ((2 * (∑ l, a0 i l * a0 l j) - if i = j then 1 else 0 : ℝ) : EReal)
  h1 : ∀ i j, A1 (ix2 i j) = ((a1 i j : ℝ) : EReal)
  hc1 : ∀ i j, C1 (ix2 i j) = ((2 * (∑ l, a1 i l * a1 l j) - if i = j then 1 else 0 : ℝ) : EReal)

theorem conv128_at (hA : Supports A0 C0 A1 C1 a0 a1) (bias : FVec Ideal S1x1x128 .f32) (x : FVec Ideal S325x16x128 .f32)
    (w : FVec Ideal S128x640 .f32) (xr : Fin 16 → Fin 325 → Fin 128 → ℝ) (wr : Fin 5 → Fin 128 → Fin 128 → ℝ)
    (hx : ∀ i b q, x (ix3 i b q) = ((xr b i q : ℝ) : EReal))
    (hw : ∀ (k : Fin 5) q (o : Fin 128), w (ix2 q (⟨k.val * 128 + o.val, by omega⟩ : Fin 640)) = ((wr k q o : ℝ) : EReal))
    (i : Fin 325) (b : Fin 16) (o : Fin 128) :
    conv128 A0 C0 A1 C1 bias x w (ix3 i b o)
      = bias (ix3 0 0 o) + ((lin a0 a1 (fun k q => wr k q o) (xr b) i : ℝ) : EReal) := by
  have w0 : ∀ q, w (ix2 q (⟨o.val, by omega⟩ : Fin 640)) = ((wr 0 q o : ℝ) : EReal) := fun q =>
    (congrArg (fun z => w (ix2 q z)) (Fin.ext (by dsimp only; omega))).trans (hw 0 q o)
  have w1 : ∀ q, w (ix2 q (⟨128 + o.val, by omega⟩ : Fin 640)) = ((wr 1 q o : ℝ) : EReal) := fun q =>
    (congrArg (fun z => w (ix2 q z)) (Fin.ext (by dsimp only; omega))).trans (hw 1 q o)
  have w2 : ∀ q, w (ix2 q (⟨256 + o.val, by omega⟩ : Fin 640)) = ((wr 2 q o : ℝ) : EReal) := fun q =>
    (congrArg (fun z => w (ix2 q z)) (Fin.ext (by dsimp only; omega))).trans (hw 2 q o)
  have w3 : ∀ q, w (ix2 q (⟨384 + o.val, by omega⟩ : Fin 640)) = ((wr 3 q o : ℝ) : EReal) := fun q =>
    (congrArg (fun z => w (ix2 q z)) (Fin.ext (by dsimp only; omega))).trans (hw 3 q o)
  have w4 : ∀ q, w (ix2 q (⟨512 + o.val, by omega⟩ : Fin 640)) = ((wr 4 q o : ℝ) : EReal) := fun q =>
    (congrArg (fun z => w (ix2 q z)) (Fin.ext (by dsimp only; omega))).trans (hw 4 q o)
  pointwise [conv128]
  simp only [hx, w0, w1, w2, w3, w4, hA.h0, hA.hc0, hA.h1, hA.hc1, ← EReal.coe_mul, ← coe_sum, add_assoc, ← EReal.coe_add]
  rw [← lin_contract]
  simp only [add_assoc]

theorem conv64_at (hA : Supports A0 C0 A1 C1 a0 a1) (bias : FVec Ideal S1x1x64 .f32) (x : FVec Ideal S325x16x128 .f32)
    (w : FVec Ideal S128x320 .f32) (xr : Fin 16 → Fin 325 → Fin 128 → ℝ) (wr : Fin 5 → Fin 128 → Fin 64 → ℝ)
    (hx : ∀ i b q, x (ix3 i b q) = ((xr b i q : ℝ) : EReal))
    (hw : ∀ (k : Fin 5) q (o : Fin 64), w (ix2 q (⟨k.val * 64 + o.val, by omega⟩ : Fin 320)) = ((wr k q o : ℝ) : EReal))
    (i : Fin 325) (b : Fin 16) (o : Fin 64) :
    conv64 A0 C0 A1 C1 bias x w (ix3 i b o)
      = bias (ix3 0 0 o) + ((lin a0 a1 (fun k q => wr k q o) (xr b) i : ℝ) : EReal) := by
  have w0 : ∀ q, w (ix2 q (⟨o.val, by omega⟩ : Fin 320)) = ((wr 0 q o : ℝ) : EReal) := fun q =>
    (congrArg (fun z => w (ix2 q z)) (Fin.ext (by dsimp only; omega))).trans (hw 0 q o)
  have w1 : ∀ q, w (ix2 q (⟨64 + o.val, by omega⟩ : Fin 320)) = ((wr 1 q o : ℝ) : EReal) := fun q =>
    (congrArg (fun z => w (ix2 q z)) (Fin.ext (by dsimp only; omega))).trans (hw 1 q o)
  have w2 : ∀ q, w (ix2 q (⟨128 + o.val, by omega⟩ : Fin 320)) = ((wr 2 q o : ℝ) : EReal) := fun q =>
    (congrArg (fun z => w (ix2 q z)) (Fin.ext (by dsimp only; omega))).trans (hw 2 q o)
  have w3 : ∀ q, w (ix2 q (⟨192 + o.val, by omega⟩ : Fin 320)) = ((wr 3 q o : ℝ) : EReal) := fun q =>
    (congrArg (fun z => w (ix2 q z)) (Fin.ext (by dsimp only; omega))).trans (hw 3 q o)
  have w4 : ∀ q, w (ix2 q (⟨256 + o.val, by omega⟩ : Fin 320)) = ((wr 4 q o : ℝ) : EReal) := fun q =>
    (congrArg (fun z => w (ix2 q z)) (Fin.ext (by dsimp only; omega))).trans (hw 4 q o)
  pointwise [conv64]
  simp only [hx, w0, w1, w2, w3, w4, hA.h0, hA.hc0, hA.h1, hA.hc1, ← EReal.coe_mul, ← coe_sum, add_assoc, ← EReal.coe_add]
  rw [← lin_contract]
  simp only [add_assoc]

/-- The cell read at an index: every entry is the recurrence's. -/
theorem cell_at (hA : Supports A0 C0 A1 C1 a0 a1) (bg : FVec Ideal S1x1x128 .f32) (bc : FVec Ideal S1x1x64 .f32)
    (wg : FVec Ideal S128x640 .f32) (wc : FVec Ideal S128x320 .f32) (x h : FVec Ideal S325x16x64 .f32)
    (C : Cell 128) (xr hr : Fin 16 → Fin 325 → Fin 64 → ℝ)
    (hx : ∀ i b q, x (ix3 i b q) = ((xr b i q : ℝ) : EReal)) (hh : ∀ i b q, h (ix3 i b q) = ((hr b i q : ℝ) : EReal))
    (hbg : ∀ o, bg (ix3 0 0 o) = C.bg o) (hbc : ∀ o, bc (ix3 0 0 o) = C.bc o)
    (hwg : ∀ (k : Fin 5) q (o : Fin 128), wg (ix2 q (⟨k.val * 128 + o.val, by omega⟩ : Fin 640)) = ((C.Wg k q o : ℝ) : EReal))
    (hwc : ∀ (k : Fin 5) q (o : Fin 64), wc (ix2 q (⟨k.val * 64 + o.val, by omega⟩ : Fin 320)) = ((C.Wc k q o : ℝ) : EReal))
    (i : Fin 325) (b : Fin 16) (o : Fin 64) :
    cell A0 C0 A1 C1 bg bc wg wc x h (ix3 i b o) = ((gru a0 a1 C (xr b) (hr b) i o : ℝ) : EReal) := by
  have hcat : ∀ (y : FVec Ideal S325x16x64 .f32) (yr : Fin 16 → Fin 325 → Fin 64 → ℝ)
      (hy : ∀ i b q, y (ix3 i b q) = ((yr b i q : ℝ) : EReal)) (i : Fin 325) (b : Fin 16) (q : Fin 128),
      concatenate S325x16x128 2 [⟨S325x16x64, x⟩, ⟨S325x16x64, y⟩] concatenates_S325x16x64_S325x16x64_S325x16x128_d2 (ix3 i b q)
        = ((cat 128 (xr b) (yr b) i q : ℝ) : EReal) := by
    intro y yr hy i b q
    pointwise
    unfold cat
    by_cases hq : q.val < 64
    · rw [dif_pos hq, dif_pos hq, hx]
    · rw [dif_neg hq, dif_neg hq, dif_pos (by omega), hy]
  have hg : ∀ i b (o : Fin 128), logistic (conv128 A0 C0 A1 C1 bg
      (concatenate S325x16x128 2 [⟨S325x16x64, x⟩, ⟨S325x16x64, h⟩] concatenates_S325x16x64_S325x16x64_S325x16x128_d2) wg) (ix3 i b o)
      = ((gates a0 a1 C (xr b) (hr b) i o : ℝ) : EReal) := by
    intro i b o
    refine (congrArg Ideal.logistic (conv128_at hA bg _ wg (fun b => cat 128 (xr b) (hr b)) C.Wg (hcat h hr hh) hwg i b o)).trans ?_
    rw [hbg, coe_sg]; rfl
  unfold cell
  generalize hG : logistic (conv128 A0 C0 A1 C1 bg
      (concatenate S325x16x128 2 [⟨S325x16x64, x⟩, ⟨S325x16x64, h⟩] concatenates_S325x16x64_S325x16x64_S325x16x128_d2) wg) = G at hg ⊢
  have hr' : ∀ i b (q : Fin 64), mulf (extractStridedSlice S325x16x64 ![0, 0, 0] G slices_S325x16x128_o0_0_0_S325x16x64) h (ix3 i b q)
      = ((reset a0 a1 C (xr b) (hr b) i q : ℝ) : EReal) := by
    intro i b q
    pointwise
    rw [hh, hg, ← EReal.coe_mul]; rfl
  have hc : ∀ i b (o : Fin 64), tanh (conv64 A0 C0 A1 C1 bc (concatenate S325x16x128 2 [⟨S325x16x64, x⟩, ⟨S325x16x64,
      mulf (extractStridedSlice S325x16x64 ![0, 0, 0] G slices_S325x16x128_o0_0_0_S325x16x64) h⟩]
        concatenates_S325x16x64_S325x16x64_S325x16x128_d2) wc) (ix3 i b o) = ((cand a0 a1 C (xr b) (hr b) i o : ℝ) : EReal) := by
    intro i b o
    refine (congrArg Ideal.tanh (conv64_at hA bc _ wc (fun b => cat 128 (xr b) (reset a0 a1 C (xr b) (hr b))) C.Wc
      (hcat _ (fun b => reset a0 a1 C (xr b) (hr b)) hr') hwc i b o)).trans ?_
    rw [hbc, coe_th]; rfl
  generalize tanh (conv64 A0 C0 A1 C1 bc (concatenate S325x16x128 2 [⟨S325x16x64, x⟩, ⟨S325x16x64,
      mulf (extractStridedSlice S325x16x64 ![0, 0, 0] G slices_S325x16x128_o0_0_0_S325x16x64) h⟩]
        concatenates_S325x16x64_S325x16x64_S325x16x128_d2) wc) = D at hc ⊢
  pointwise
  rw [hg, hh, hc, ← EReal.coe_one, ← EReal.coe_sub, ← EReal.coe_mul, ← EReal.coe_mul, ← EReal.coe_add]
  rfl

end Cert.KernelIdeal.Conv
-- ==== Proof.KTrip.lean ====
/-
  The rest of the kernel's values read at an index: the support matrices, the initial values, the projection, the stored
  block and the next input.
-/
module

public import proofs.«01_k».proof.Proof.KConv
public import Idealize.ShloMosaic.Lib.WordCmp

@[expose] public section

set_option maxRecDepth 16384

noncomputable section

open Idealize.ShloMosaic Idealize.ShloMosaic.TcCoe Idealize.SL.Sem

namespace Cert.KernelIdeal.Conv

open Cert.KernelIdeal Cert.KernelIdeal.Gen Cert.Dcrnn

theorem zero_word : (Scalar.sitofp .f32 0#32 : Ideal .f32) = ((0 : ℝ) : EReal) := by
  show (((0#32 : BitVec 32).toInt : ℝ) : EReal) = _
  simp

/-- The identity matrix. -/
theorem eye_at (i j : Fin 325) : k0_pay20 (F := Ideal) (ix2 i j) = ((if i = j then 1 else 0 : ℝ) : EReal) := by
  have hb : ∀ b : BitVec 1, (FloatOps.sitofp (F := Ideal) .f32 (b.setWidth 32) : EReal) = ((if b = 1#1 then 1 else 0 : ℝ) : EReal) := by
    intro b
    show (((b.setWidth 32).toInt : ℝ) : EReal) = _
    revert b
    have h0 : ((0#1 : BitVec 1).setWidth 32).toInt = 0 := by decide
    have h1 : ((1#1 : BitVec 1).setWidth 32).toInt = 1 := by decide
    intro b
    rcases (by decide : ∀ b : BitVec 1, b = 0#1 ∨ b = 1#1) b with rfl | rfl
    · rw [h0]; simp
    · rw [h1]; simp
  have hr : k0_pay20 (F := Ideal) (ix2 i j) = FloatOps.sitofp (F := Ideal) .f32 ((IntOp.cmpi .eq (BitVec.ofNat 32 i.val) (BitVec.ofNat 32 j.val)).setWidth 32) := by
    unfold k0_pay20
    pointwise
  refine hr.trans ((hb (IntOp.cmpi .eq (BitVec.ofNat 32 i.val) (BitVec.ofNat 32 j.val))).trans ?_)
  have hc : (IntOp.cmpi .eq (BitVec.ofNat 32 i.val) (BitVec.ofNat 32 j.val) = 1#1) ↔ i = j := by
    have e1 : (BitVec.ofNat 32 i.val).toNat = i.val := by rw [BitVec.toNat_ofNat]; exact Nat.mod_eq_of_lt (by omega)
    have e2 : (BitVec.ofNat 32 j.val).toNat = j.val := by rw [BitVec.toNat_ofNat]; exact Nat.mod_eq_of_lt (by omega)
    show (BitVec.ofBool (BitVec.ofNat 32 i.val == BitVec.ofNat 32 j.val) = 1#1) ↔ i = j
    constructor
    · intro h
      by_contra hn
      have hne : ¬ BitVec.ofNat 32 i.val = BitVec.ofNat 32 j.val := fun he => hn (Fin.ext (by
        have := congrArg BitVec.toNat he; rw [e1, e2] at this; exact this))
      rw [beq_eq_false_iff_ne.2 hne] at h
      exact absurd h (by decide)
    · rintro rfl; simp
  simp only [hc]

theorem cheb_mat (v0 : Vec Ideal S325x325 .f32) (a : Fin 325 → Fin 325 → ℝ) (h : ∀ i j, v0 (ix2 i j) = ((a i j : ℝ) : EReal))
    (i j : Fin 325) : k0_pay22 (F := Ideal) v0 (ix2 i j)
      = ((2 * (∑ l, a i l * a l j) - if i = j then 1 else 0 : ℝ) : EReal) := by
  have he := eye_at i j
  unfold k0_pay22
  generalize k0_pay20 (F := Ideal) = y at he ⊢
  pointwise
  rw [he, two]
  simp only [h, ← EReal.coe_mul, ← coe_sum, ← EReal.coe_sub]

theorem supports_of (v0 v1 : Vec Ideal S325x325 .f32) (a0 a1 : Fin 325 → Fin 325 → ℝ)
    (h0 : ∀ i j, v0 (ix2 i j) = ((a0 i j : ℝ) : EReal)) (h1 : ∀ i j, v1 (ix2 i j) = ((a1 i j : ℝ) : EReal)) :
    Supports (k0_pay21 (F := Ideal) v0) (k0_pay22 v0) (k0_pay23 v1) (k0_pay24 v1) a0 a1 where
  h0 := h0
  hc0 := cheb_mat v0 a0 h0
  h1 := h1
  hc1 := cheb_mat v1 a1 h1

/-- The prediction of a block of states. -/
def proj (s1 : FVec Ideal S325x16x64 .f32) (v33 : FVec Ideal S1x1x2 .f32) (v34 : Vec Ideal S64x2 .f32) : FVec Ideal S325x16x2 .f32 :=
  addf (matmul (φ₁ := .bf16) (φ₂ := .bf16) dot_S325x16x64_S64x2_S325x16x2_2_0_01_1_n_n none (truncf .bf16 s1 bitsLt_bf16_f32)
    (truncf .bf16 (v34 : FVec Ideal S64x2 .f32) bitsLt_bf16_f32) (constant S325x16x2 .f32 0x00000000#32)) (broadcastTo S325x16x2 v33 broadcasts_S1x1x2_S325x16x2)

theorem proj_at (s1 : FVec Ideal S325x16x64 .f32) (v33 : FVec Ideal S1x1x2 .f32) (v34 : Vec Ideal S64x2 .f32)
    (sr : Fin 16 → Fin 325 → Fin 64 → ℝ) (wp : Fin 64 → Fin 2 → ℝ) (bp : Fin 2 → ℝ)
    (hs : ∀ i b q, s1 (ix3 i b q) = ((sr b i q : ℝ) : EReal)) (hw : ∀ q c, v34 (ix2 q c) = ((wp q c : ℝ) : EReal))
    (hb : ∀ c, v33 (ix3 0 0 c) = ((bp c : ℝ) : EReal)) (i : Fin 325) (b : Fin 16) (c : Fin 2) :
    proj s1 v33 v34 (ix3 i b c) = (((∑ q, sr b i q * wp q c) + bp c : ℝ) : EReal) := by
  pointwise [proj]
  simp only [hs, hw, hb, ← EReal.coe_mul, ← coe_sum, ← EReal.coe_add]

/-- The stored block: vertex by vertex, the batch rows' predictions side by side. -/
def stored (p : FVec Ideal S325x16x2 .f32) : FVec Ideal S1x1x325x32 .f32 :=
  shapeCast S1x1x325x32 (shapeCast S325x32 p shapeCasts_S325x16x2_S325x32) shapeCasts_S325x32_S1x1x325x32

theorem stored_at (p : FVec Ideal S325x16x2 .f32) (i : Fin 325) (b : Fin 16) (c : Fin 2) :
    stored p (ix4 0 0 i (⟨b.val * 2 + c.val, by omega⟩ : Fin 32)) = p (ix3 i b c) := by
  pointwise [stored]

theorem pay18_at (v : Vec Ideal S1x1x325x32 .f32) (i : Fin 325) (b : Fin 16) (c : Fin 2) :
    k0_pay18 (F := Ideal) v (ix3 i b c) = v (ix4 0 0 i (⟨b.val * 2 + c.val, by omega⟩ : Fin 32)) := by
  pointwise [k0_pay18]

/-- A block of two channels beside zeros. -/
theorem padded_at (x : FVec Ideal S325x16x2 .f32) (z : Ideal .f32) (xr : Fin 16 → Fin 325 → Fin 2 → ℝ) (hz : z = ((0 : ℝ) : EReal))
    (hx : ∀ i b c, x (ix3 i b c) = ((xr b i c : ℝ) : EReal)) (i : Fin 325) (b : Fin 16) (q : Fin 64) :
    concatenate S325x16x64 2 [⟨S325x16x2, x⟩, ⟨S325x16x62, broadcast S325x16x62 z⟩] concatenates_S325x16x2_S325x16x62_S325x16x64_d2 (ix3 i b q)
      = ((widen (xr b) i q : ℝ) : EReal) := by
  subst hz
  pointwise
  unfold widen
  split
  · rw [hx]
  · rfl

theorem pay1_at (v : Vec Ideal S1x1x325x32 .f32) (xr : Fin 16 → Fin 325 → Fin 2 → ℝ)
    (hv : ∀ i (b : Fin 16) (c : Fin 2), v (ix4 0 0 i (⟨b.val * 2 + c.val, by omega⟩ : Fin 32)) = ((xr b i c : ℝ) : EReal))
    (i : Fin 325) (b : Fin 16) (q : Fin 64) : k0_pay1 (F := Ideal) v (ix3 i b q) = ((widen (xr b) i q : ℝ) : EReal) :=
  padded_at (k0_pay18 v) _ xr zero_word (fun i b c => (pay18_at v i b c).trans (hv i b c)) i b q

/-- The next input. -/
theorem nxt_at (p : FVec Ideal S325x16x2 .f32) (f : Ideal .f32) (v : Vec Ideal S1x1x325x32 .f32) (forced : Bool)
    (xr pr : Fin 16 → Fin 325 → Fin 2 → ℝ) (hf : f = ((if forced then 1 else 0 : ℝ) : EReal))
    (hv : ∀ i (b : Fin 16) (c : Fin 2), v (ix4 0 0 i (⟨b.val * 2 + c.val, by omega⟩ : Fin 32)) = ((xr b i c : ℝ) : EReal))
    (hp : ∀ i b c, p (ix3 i b c) = ((pr b i c : ℝ) : EReal)) (i : Fin 325) (b : Fin 16) (q : Fin 64) :
    nxt p f v (ix3 i b q) = ((widen (if forced then xr b else pr b) i q : ℝ) : EReal) := by
  have h1 := padded_at (k0_pay18 v) _ xr zero_word (fun i b c => (pay18_at v i b c).trans (hv i b c)) i b q
  have h2 := padded_at p _ pr zero_word hp i b q
  show f * (concatenate S325x16x64 2 [⟨S325x16x2, k0_pay18 v⟩, ⟨S325x16x62, k0_pay19⟩] concatenates_S325x16x2_S325x16x62_S325x16x64_d2 (ix3 i b q))
    + (Ideal.ofBits .f32 0x3F800000#32 - f) * (concatenate S325x16x64 2 [⟨S325x16x2, p⟩, ⟨S325x16x62, broadcast S325x16x62 (Scalar.sitofp .f32 0#32)⟩]
      concatenates_S325x16x2_S325x16x62_S325x16x64_d2 (ix3 i b q)) = _
  have h1' : concatenate S325x16x64 2 [⟨S325x16x2, k0_pay18 v⟩, ⟨S325x16x62, k0_pay19⟩] concatenates_S325x16x2_S325x16x62_S325x16x64_d2 (ix3 i b q)
    = ((widen (xr b) i q : ℝ) : EReal) := h1
  rw [h1', h2, hf, Ideal.ofBits_one_f32, ← EReal.coe_one, ← EReal.coe_sub, ← EReal.coe_mul, ← EReal.coe_mul, ← EReal.coe_add]
  cases forced <;> simp

section
variable (v15 v16 v17 v18 : FVec Ideal S325x325 .bf16) (v30 : FVec Ideal S1x1x64 .f32)
  (v33 : FVec Ideal S1x1x2 .f32) (v34 : Vec Ideal S64x2 .f32) (h' x : FVec Ideal S325x16x64 .f32) (y : FVec Ideal S325x16x128 .bf16)
  (w : FVec Ideal S128x320 .bf16) (z : FVec Ideal S325x16x320 .f32)

theorem pay16_eq : k0_pay16 (F := Ideal) v15 v16 v17 v18 v30 v33 v34 h' x y w z
    = proj (k0_pay15 v15 v16 v17 v18 v30 h' x y w z) v33 v34 := rfl

theorem pay17_eq : k0_pay17 (F := Ideal) v15 v16 v17 v18 v30 v33 v34 h' x y w z
    = stored (k0_pay16 v15 v16 v17 v18 v30 v33 v34 h' x y w z) := rfl
end

theorem pay25_at (v : Vec Ideal S1x128 .f32) (o : Fin 128) : k0_pay25 (F := Ideal) v (ix3 0 0 o) = v (ix2 0 o) := by
  pointwise [k0_pay25]
theorem pay26_at (v : Vec Ideal S1x64 .f32) (o : Fin 64) : k0_pay26 (F := Ideal) v (ix3 0 0 o) = v (ix2 0 o) := by
  pointwise [k0_pay26]
theorem pay27_at (v : Vec Ideal S1x128 .f32) (o : Fin 128) : k0_pay27 (F := Ideal) v (ix3 0 0 o) = v (ix2 0 o) := by
  pointwise [k0_pay27]
theorem pay28_at (v : Vec Ideal S1x64 .f32) (o : Fin 64) : k0_pay28 (F := Ideal) v (ix3 0 0 o) = v (ix2 0 o) := by
  pointwise [k0_pay28]
theorem pay29_at (v : Vec Ideal S1x2 .f32) (o : Fin 2) : k0_pay29 (F := Ideal) v (ix3 0 0 o) = v (ix2 0 o) := by
  pointwise [k0_pay29]

end Cert.KernelIdeal.Conv
-- ==== Proof.KLoop.lean ====
/-
  The kernel's loop at one chunk of sixteen batch rows: what it carries before each trip is the recurrence's state, and what
  each trip stores is the recurrence's prediction.
-/
module

public import proofs.«01_k».proof.Proof.KTrip
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.ShloMosaic.Tactic Idealize.SL.Sem

namespace Cert.KernelIdeal.Conv

open Cert.KernelIdeal Cert.KernelIdeal.Gen Cert.Dcrnn

/-- What the loop carries: the input and both layers' states. -/
abbrev Acc : Type := FVec Ideal S325x16x64 .f32 × FVec Ideal S325x16x64 .f32 × FVec Ideal S325x16x64 .f32

/-- Row `b` of chunk `j`. -/
def row (j : Fin 4) (b : Fin 16) : Fin 64 := ⟨j.val * 16 + b.val, by omega⟩

/-- The values the loop reads are the parameters'. -/
structure Lines (P : Par) (j : Fin 4) (v15 v16 v17 v18 : FVec Ideal S325x325 .bf16) (v21 : FVec Ideal S1x1x128 .f32) (v24 : FVec Ideal S1x1x64 .f32)
    (v27 : FVec Ideal S1x1x128 .f32) (v30 : FVec Ideal S1x1x64 .f32) (v33 : FVec Ideal S1x1x2 .f32) (v34 : Vec Ideal S64x2 .f32)
    (x1 : Vec Ideal S12x1x325x32 .f32) (x2 : Vec Ideal S11 .f32) (w7 : Vec Ideal S128x640 .f32) (w8 : Vec Ideal S128x320 .f32)
    (w9 : Vec Ideal S128x640 .f32) (w10 : Vec Ideal S128x320 .f32) : Prop where
  sup : Supports v15 v16 v17 v18 P.A0 P.A1
  bg0 : ∀ o, v21 (ix3 0 0 o) = P.C0.bg o
  bc0 : ∀ o, v24 (ix3 0 0 o) = P.C0.bc o
  bg1 : ∀ o, v27 (ix3 0 0 o) = P.C1.bg o
  bc1 : ∀ o, v30 (ix3 0 0 o) = P.C1.bc o
  bp : ∀ c, v33 (ix3 0 0 c) = ((P.bp c : ℝ) : EReal)
  Wp : ∀ q c, v34 (ix2 q c) = ((P.Wp q c : ℝ) : EReal)
  seq : ∀ (t : Fin 12) i (b : Fin 16) (c : Fin 2),
    x1 (ix4 t 0 i (⟨b.val * 2 + c.val, by omega⟩ : Fin 32)) = ((P.seq t.val (row j b) i c : ℝ) : EReal)
  tf : ∀ t : Fin 11, x2 (ix1 t) = ((if forced t.val then 1 else 0 : ℝ) : EReal)
  wg0 : ∀ (k : Fin 5) q (o : Fin 128), w7 (ix2 q (⟨k.val * 128 + o.val, by omega⟩ : Fin 640)) = ((P.C0.widen.Wg k q o : ℝ) : EReal)
  wc0 : ∀ (k : Fin 5) q (o : Fin 64), w8 (ix2 q (⟨k.val * 64 + o.val, by omega⟩ : Fin 320)) = ((P.C0.widen.Wc k q o : ℝ) : EReal)
  wg1 : ∀ (k : Fin 5) q (o : Fin 128), w9 (ix2 q (⟨k.val * 128 + o.val, by omega⟩ : Fin 640)) = ((P.C1.Wg k q o : ℝ) : EReal)
  wc1 : ∀ (k : Fin 5) q (o : Fin 64), w10 (ix2 q (⟨k.val * 64 + o.val, by omega⟩ : Fin 320)) = ((P.C1.Wc k q o : ℝ) : EReal)

/-- What the loop carries is a state of the recurrence, on the chunk's rows. -/
structure Carried (P : Par) (j : Fin 4) (s : St) (acc : Acc) : Prop where
  cur : ∀ i b q, acc.1 (ix3 i b q) = ((widen (s.cur (row j b)) i q : ℝ) : EReal)
  s0 : ∀ i b q, acc.2.1 (ix3 i b q) = ((s.s0 (row j b) i q : ℝ) : EReal)
  s1 : ∀ i b q, acc.2.2 (ix3 i b q) = ((s.s1 (row j b) i q : ℝ) : EReal)

/-- What chunk `j`'s block of the output is to hold. -/
def goal (P : Par) (j : Fin 4) (y : S11x1x325x32.Idx) : EReal :=
  (((st P (y 0).val).proj P (row j ⟨(y 3).val / 2, by have h : (y 3).val < 32 := (y 3).isLt; omega⟩) (y 2) ⟨(y 3).val % 2, by omega⟩ : ℝ) : EReal)

theorem goal_at (P : Par) (j : Fin 4) (t : Fin 11) (i : Fin 325) (b : Fin 16) (c : Fin 2) :
    goal P j (ix4 t 0 i (⟨b.val * 2 + c.val, by omega⟩ : Fin 32)) = (((st P t.val).proj P (row j b) i c : ℝ) : EReal) := by
  have e1 : (⟨(b.val * 2 + c.val) / 2, by omega⟩ : Fin 16) = b := Fin.ext (by dsimp only; omega)
  have e2 : (⟨(b.val * 2 + c.val) % 2, by omega⟩ : Fin 2) = c := Fin.ext (by dsimp only; omega)
  show (((st P t.val).proj P (row j ⟨(b.val * 2 + c.val) / 2, _⟩) i ⟨(b.val * 2 + c.val) % 2, _⟩ : ℝ) : EReal) = _
  rw [e1, e2]

/-- An index of a stored block, and where the block's rectangle puts it. -/
theorem piece_idx (k : Fin k0_t1_loop.trips) (hk : k.val < 11) (x : S1x1x325x32.Idx) : ∃ (b : Fin 16) (c : Fin 2),
    x = ix4 (0 : Fin 1) (0 : Fin 1) (x 2 : Fin 325) (⟨b.val * 2 + c.val, by omega⟩ : Fin 32)
      ∧ (Rect.unit (s := S11x1x325x32) (k0_off1 k) S1x1x325x32.size (k0_off1_inb k)).emb x
        = ix4 (⟨k.val, hk⟩ : Fin 11) (0 : Fin 1) (x 2 : Fin 325) (⟨b.val * 2 + c.val, by omega⟩ : Fin 32) := by
  have hx3 : (x 3).val < 32 := (x 3).isLt
  have hx0 : (x 0).val < 1 := (x 0).isLt
  have hx1 : (x 1).val < 1 := (x 1).isLt
  refine ⟨⟨(x 3).val / 2, by omega⟩, ⟨(x 3).val % 2, by omega⟩, ?_, ?_⟩
  · funext a
    fin_cases a
    · exact Fin.ext (show (x 0).val = 0 by omega)
    · exact Fin.ext (show (x 1).val = 0 by omega)
    · rfl
    · exact Fin.ext (show (x 3).val = (x 3).val / 2 * 2 + (x 3).val % 2 by omega)
  · funext a
    have ho : k0_off1 k a = (![k.val, 0, 0, 0] : Fin 4 → ℕ) a := congrFun (k0_off1_eq k) a
    refine Fin.ext ((Rect.idx_unit_val _ _ _ x a).trans ((congrArg (· + (x a).val) ho).trans ?_))
    fin_cases a
    · show k.val + (x 0).val = k.val; omega
    · show 0 + (x 1).val = 0; omega
    · exact Nat.zero_add _
    · show 0 + (x 3).val = (x 3).val / 2 * 2 + (x 3).val % 2; omega

section
variable (𝒱 : Variants) (c : Dev nD) (bd : Option 𝒱.V) (i : grid0.Coords) (arg1 : Memref sig .tc .vmem S12x1x325x32 .f32)
  (harg1 : arg1.IsWhole) (arg2 : Memref sig .tc .smem S11 .f32) (harg2 : arg2.IsWhole)
  (arg3 : Memref sig .tc .vmem S325x16x64 .f32) (harg3 : arg3.IsWhole) (arg4 : Memref sig .tc .vmem S325x16x64 .f32)
  (harg4 : arg4.IsWhole) (arg5 : Memref sig .tc .vmem S325x325 .f32) (harg5 : arg5.IsWhole)
  (arg6 : Memref sig .tc .vmem S325x325 .f32) (harg6 : arg6.IsWhole) (arg7 : Memref sig .tc .vmem S128x640 .f32)
  (harg7 : arg7.IsWhole) (arg8 : Memref sig .tc .vmem S128x320 .f32) (harg8 : arg8.IsWhole)
  (arg9 : Memref sig .tc .vmem S128x640 .f32) (harg9 : arg9.IsWhole) (arg10 : Memref sig .tc .vmem S128x320 .f32)
  (harg10 : arg10.IsWhole) (arg11 : Memref sig .tc .vmem S1x128 .f32) (harg11 : arg11.IsWhole)
  (arg12 : Memref sig .tc .vmem S1x64 .f32) (harg12 : arg12.IsWhole) (arg13 : Memref sig .tc .vmem S1x128 .f32)
  (harg13 : arg13.IsWhole) (arg14 : Memref sig .tc .vmem S1x64 .f32) (harg14 : arg14.IsWhole)
  (arg15 : Memref sig .tc .vmem S64x2 .f32) (harg15 : arg15.IsWhole) (arg16 : Memref sig .tc .vmem S1x2 .f32)
  (harg16 : arg16.IsWhole) (arg17 : Memref sig .tc .vmem S11x1x325x32 .f32) (harg17 : arg17.IsWhole)
  (v15 : FVec Ideal S325x325 .bf16) (v16 : FVec Ideal S325x325 .bf16) (v17 : FVec Ideal S325x325 .bf16)
  (v18 : FVec Ideal S325x325 .bf16) (v21 : FVec Ideal S1x1x128 .f32) (v24 : FVec Ideal S1x1x64 .f32)
  (v27 : FVec Ideal S1x1x128 .f32) (v30 : FVec Ideal S1x1x64 .f32) (v33 : FVec Ideal S1x1x2 .f32)
  (v34 : Vec Ideal S64x2 .f32) (X_arg1 : BufTy.Contents (Elt Ideal) arg1.view.ty)
  (X_arg2 : BufTy.Contents (Elt Ideal) arg2.view.ty) (X_arg7 : BufTy.Contents (Elt Ideal) arg7.view.ty)
  (X_arg8 : BufTy.Contents (Elt Ideal) arg8.view.ty) (X_arg9 : BufTy.Contents (Elt Ideal) arg9.view.ty)
  (X_arg10 : BufTy.Contents (Elt Ideal) arg10.view.ty)

/-- The first layer's new state in a trip. -/
abbrev new0 (acc : Acc) : FVec Ideal S325x16x64 .f32 :=
  cell v15 v16 v17 v18 v21 v24 (arg7.view.read (Elt Ideal) X_arg7) (arg8.view.read (Elt Ideal) X_arg8) acc.1 acc.2.1

/-- The second layer's. -/
abbrev new1 (acc : Acc) : FVec Ideal S325x16x64 .f32 :=
  cell v15 v16 v17 v18 v27 v30 (arg9.view.read (Elt Ideal) X_arg9) (arg10.view.read (Elt Ideal) X_arg10)
    (cell v15 v16 v17 v18 v21 v24 (arg7.view.read (Elt Ideal) X_arg7) (arg8.view.read (Elt Ideal) X_arg8) acc.1 acc.2.1) acc.2.2

theorem read7 : View.readAt (Elt Ideal) arg7.view (Rect.unit (s := S128x640) ![0, 0] S128x640.size inb_S128x640_S128x640_0_0).toLoadRect X_arg7 = arg7.view.read (Elt Ideal) X_arg7 :=
  (View.readAt_eq_ld _ _ _).trans (View.ld_unit_zero (by decide) _ _)
theorem read8 : View.readAt (Elt Ideal) arg8.view (Rect.unit (s := S128x320) ![0, 0] S128x320.size inb_S128x320_S128x320_0_0).toLoadRect X_arg8 = arg8.view.read (Elt Ideal) X_arg8 :=
  (View.readAt_eq_ld _ _ _).trans (View.ld_unit_zero (by decide) _ _)
theorem read9 : View.readAt (Elt Ideal) arg9.view (Rect.unit (s := S128x640) ![0, 0] S128x640.size inb_S128x640_S128x640_0_0).toLoadRect X_arg9 = arg9.view.read (Elt Ideal) X_arg9 :=
  (View.readAt_eq_ld _ _ _).trans (View.ld_unit_zero (by decide) _ _)
theorem read10 : View.readAt (Elt Ideal) arg10.view (Rect.unit (s := S128x320) ![0, 0] S128x320.size inb_S128x320_S128x320_0_0).toLoadRect X_arg10 = arg10.view.read (Elt Ideal) X_arg10 :=
  (View.readAt_eq_ld _ _ _).trans (View.ld_unit_zero (by decide) _ _)

/-- What a trip hands the next. -/
theorem trip_next (k : Fin k0_t1_loop.trips) (acc : Acc) :
    (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v15 v16 v17 v18 v21 v24 v27 v30 v33 v34 X_arg1 X_arg2 X_arg7 X_arg8 X_arg9 X_arg10 k).1 acc
      = (nxt (proj (new1 arg7 arg8 arg9 arg10 v15 v16 v17 v18 v21 v24 v27 v30 X_arg7 X_arg8 X_arg9 X_arg10 acc) v33 v34)
          (View.readAt (Elt Ideal) arg2.view (Rect.unit (s := S11) (k0_off2 k) S1.size (k0_off2_inb k)).toLoadRect X_arg2 (Shape.Idx.first (numel1_S1.symm ▸ Nat.one_pos : 0 < S1.numel)))
          (View.readAt (Elt Ideal) arg1.view (Rect.unit (s := S12x1x325x32) (k0_off3 k) S1x1x325x32.size (k0_off3_inb k)).toLoadRect X_arg1),
        new0 arg7 arg8 v15 v16 v17 v18 v21 v24 X_arg7 X_arg8 acc,
        new1 arg7 arg8 arg9 arg10 v15 v16 v17 v18 v21 v24 v27 v30 X_arg7 X_arg8 X_arg9 X_arg10 acc) := by
  unfold trip_k0_t1
  dsimp only
  sl_unfold_words
  rw [pay16_eq, pay15_eq, pay10_eq, read7, read8, read9, read10]

/-- What a trip stores. -/
theorem trip_pieces (k : Fin k0_t1_loop.trips) (acc : Acc) :
    (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v15 v16 v17 v18 v21 v24 v27 v30 v33 v34 X_arg1 X_arg2 X_arg7 X_arg8 X_arg9 X_arg10 k).2.1 acc
      = [⟨Rect.unit (s := S11x1x325x32) (k0_off1 k) S1x1x325x32.size (k0_off1_inb k),
          stored (proj (new1 arg7 arg8 arg9 arg10 v15 v16 v17 v18 v21 v24 v27 v30 X_arg7 X_arg8 X_arg9 X_arg10 acc) v33 v34)⟩] := by
  unfold trip_k0_t1
  dsimp only
  sl_unfold_words
  rw [pay17_eq, pay16_eq, pay15_eq, pay10_eq, read7, read8, read9, read10]

variable {P : Par} {j : Fin 4}

section
variable (h : Lines P j v15 v16 v17 v18 v21 v24 v27 v30 v33 v34 (arg1.view.read (Elt Ideal) X_arg1) (arg2.view.read (Elt Ideal) X_arg2)
    (arg7.view.read (Elt Ideal) X_arg7) (arg8.view.read (Elt Ideal) X_arg8) (arg9.view.read (Elt Ideal) X_arg9) (arg10.view.read (Elt Ideal) X_arg10))
  {s : St} {acc : Acc} (ha : Carried P j s acc)
include h ha

theorem new0_at (i b q) : new0 arg7 arg8 v15 v16 v17 v18 v21 v24 X_arg7 X_arg8 acc (ix3 i b q) = ((s.h0 P (row j b) i q : ℝ) : EReal) := by
  have e := cell_at h.sup v21 v24 _ _ acc.1 acc.2.1 P.C0.widen (fun b => widen (s.cur (row j b))) (fun b => s.s0 (row j b))
    ha.cur ha.s0 h.bg0 h.bc0 h.wg0 h.wc0 i b q
  refine e.trans ?_
  rw [gru_widen]
  rfl

theorem new1_at (i b q) : new1 arg7 arg8 arg9 arg10 v15 v16 v17 v18 v21 v24 v27 v30 X_arg7 X_arg8 X_arg9 X_arg10 acc (ix3 i b q)
    = ((s.h1 P (row j b) i q : ℝ) : EReal) :=
  cell_at h.sup v27 v30 _ _ _ acc.2.2 P.C1 (fun b => s.h0 P (row j b)) (fun b => s.s1 (row j b))
    (fun i b q => new0_at arg1 arg2 arg7 arg8 arg9 arg10 v15 v16 v17 v18 v21 v24 v27 v30 v33 v34 X_arg1 X_arg2 X_arg7 X_arg8 X_arg9 X_arg10 h ha i b q) ha.s1 h.bg1 h.bc1 h.wg1 h.wc1 i b q

theorem proj1_at (i b c) : proj (new1 arg7 arg8 arg9 arg10 v15 v16 v17 v18 v21 v24 v27 v30 X_arg7 X_arg8 X_arg9 X_arg10 acc) v33 v34 (ix3 i b c)
    = ((s.proj P (row j b) i c : ℝ) : EReal) :=
  proj_at _ v33 v34 (fun b => s.h1 P (row j b)) P.Wp P.bp (fun i b q => new1_at arg1 arg2 arg7 arg8 arg9 arg10 v15 v16 v17 v18 v21 v24 v27 v30 v33 v34 X_arg1 X_arg2 X_arg7 X_arg8 X_arg9 X_arg10 h ha i b q) h.Wp h.bp i b c
end

theorem trips_eq : k0_t1_loop.trips = 11 := by decide +kernel

/-- A trip carries the recurrence one step on. -/
theorem trip_carried (h : Lines P j v15 v16 v17 v18 v21 v24 v27 v30 v33 v34 (arg1.view.read (Elt Ideal) X_arg1) (arg2.view.read (Elt Ideal) X_arg2)
    (arg7.view.read (Elt Ideal) X_arg7) (arg8.view.read (Elt Ideal) X_arg8) (arg9.view.read (Elt Ideal) X_arg9) (arg10.view.read (Elt Ideal) X_arg10))
    (k : Fin k0_t1_loop.trips) (acc : Acc) (ha : Carried P j (st P k.val) acc) :
    Carried P j (st P (k.val + 1)) ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v15 v16 v17 v18 v21 v24 v27 v30 v33 v34 X_arg1 X_arg2 X_arg7 X_arg8 X_arg9 X_arg10 k).1 acc) := by
  have hk : k.val < 11 := trips_eq ▸ k.isLt
  rw [trip_next]
  refine ⟨fun i b q => ?_, fun i b q => new0_at arg1 arg2 arg7 arg8 arg9 arg10 v15 v16 v17 v18 v21 v24 v27 v30 v33 v34 X_arg1 X_arg2 X_arg7 X_arg8 X_arg9 X_arg10 h ha i b q, fun i b q => new1_at arg1 arg2 arg7 arg8 arg9 arg10 v15 v16 v17 v18 v21 v24 v27 v30 v33 v34 X_arg1 X_arg2 X_arg7 X_arg8 X_arg9 X_arg10 h ha i b q⟩
  refine (nxt_at _ _ _ (forced k.val) (fun b => P.seq (k.val + 1) (row j b)) (fun b => (st P k.val).proj P (row j b)) ?_ ?_
    (fun i b c => proj1_at arg1 arg2 arg7 arg8 arg9 arg10 v15 v16 v17 v18 v21 v24 v27 v30 v33 v34 X_arg1 X_arg2 X_arg7 X_arg8 X_arg9 X_arg10 h ha i b c) i b q).trans ?_
  · rw [View.readAt_eq_ld]
    refine (View.ld_unit_apply_of _ _ _ _ _ (ix1 (⟨k.val, hk⟩ : Fin 11)) ?_).trans (h.tf ⟨k.val, hk⟩)
    intro a
    obtain rfl : a = (0 : Fin 1) := Subsingleton.elim (α := Fin 1) _ _
    have ho : k0_off2 k 0 = k.val := congrFun (k0_off2_eq k) 0
    have hf : ((Shape.Idx.first (numel1_S1.symm ▸ Nat.one_pos : 0 < S1.numel) : S1.Idx) 0).val < 1 := Fin.isLt _
    show k.val = k0_off2 k 0 + ((Shape.Idx.first (numel1_S1.symm ▸ Nat.one_pos : 0 < S1.numel) : S1.Idx) 0).val
    omega
  · intro i b c
    rw [View.readAt_eq_ld]
    refine (View.ld_unit_apply_of _ _ _ _ _ (ix4 (⟨k.val + 1, by omega⟩ : Fin 12) (0 : Fin 1) i (⟨b.val * 2 + c.val, by omega⟩ : Fin 32)) ?_).trans
      (h.seq ⟨k.val + 1, by omega⟩ i b c)
    intro a
    have ho : k0_off3 k a = (![k.val + 1, 0, 0, 0] : Fin 4 → ℕ) a := congrFun (k0_off3_eq k) a
    refine Eq.trans ?_ (congrArg (· + (ix4 (0 : Fin 1) (0 : Fin 1) i (⟨b.val * 2 + c.val, by omega⟩ : Fin 32) a).val) ho.symm)
    fin_cases a <;> first | rfl | exact (Nat.zero_add _).symm
  · show ((widen (if forced k.val then P.seq (k.val + 1) (row j b) else (st P k.val).proj P (row j b)) i q : ℝ) : EReal)
      = ((widen ((if forced k.val then P.seq (k.val + 1) else (st P k.val).proj P) (row j b)) i q : ℝ) : EReal)
    cases forced k.val <;> rfl

/-- What a trip stores is the recurrence's prediction. -/
theorem trip_stores (h : Lines P j v15 v16 v17 v18 v21 v24 v27 v30 v33 v34 (arg1.view.read (Elt Ideal) X_arg1) (arg2.view.read (Elt Ideal) X_arg2)
    (arg7.view.read (Elt Ideal) X_arg7) (arg8.view.read (Elt Ideal) X_arg8) (arg9.view.read (Elt Ideal) X_arg9) (arg10.view.read (Elt Ideal) X_arg10))
    (k : Fin k0_t1_loop.trips) (acc : Acc) (ha : Carried P j (st P k.val) acc) :
    ∀ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v15 v16 v17 v18 v21 v24 v27 v30 v33 v34 X_arg1 X_arg2 X_arg7 X_arg8 X_arg9 X_arg10 k).2.1 acc, ∀ x : p.1.shape.Idx, p.2 x = goal P j (p.1.emb x) := by
  have hk : k.val < 11 := trips_eq ▸ k.isLt
  rw [trip_pieces]
  intro p hp
  obtain rfl := List.mem_singleton.1 hp
  intro x
  have key : ∀ (i : Fin 325) (b : Fin 16) (c : Fin 2),
      stored (proj (new1 arg7 arg8 arg9 arg10 v15 v16 v17 v18 v21 v24 v27 v30 X_arg7 X_arg8 X_arg9 X_arg10 acc) v33 v34) (ix4 0 0 i (⟨b.val * 2 + c.val, by omega⟩ : Fin 32))
        = goal P j (ix4 (⟨k.val, hk⟩ : Fin 11) (0 : Fin 1) i (⟨b.val * 2 + c.val, by omega⟩ : Fin 32)) := fun i b c => by
    rw [stored_at, goal_at]
    exact proj1_at arg1 arg2 arg7 arg8 arg9 arg10 v15 v16 v17 v18 v21 v24 v27 v30 v33 v34 X_arg1 X_arg2 X_arg7 X_arg8 X_arg9 X_arg10 h ha i b c
  obtain ⟨b, c, e1, e2⟩ := piece_idx k hk x
  refine (congrArg _ e1).trans ((key _ b c).trans (congrArg (goal P j) e2.symm))

/-- Before every trip: the carried values, and every block stored so far. -/
theorem loop_inv (h : Lines P j v15 v16 v17 v18 v21 v24 v27 v30 v33 v34 (arg1.view.read (Elt Ideal) X_arg1) (arg2.view.read (Elt Ideal) X_arg2)
    (arg7.view.read (Elt Ideal) X_arg7) (arg8.view.read (Elt Ideal) X_arg8) (arg9.view.read (Elt Ideal) X_arg9) (arg10.view.read (Elt Ideal) X_arg10))
    (init : Acc) (ha : Carried P j (st P 0) init) : ∀ n : ℕ, n ≤ k0_t1_loop.trips →
    Carried P j (st P n) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v15 v16 v17 v18 v21 v24 v27 v30 v33 v34 X_arg1 X_arg2 X_arg7 X_arg8 X_arg9 X_arg10 init n).1
      ∧ ∀ p ∈ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v15 v16 v17 v18 v21 v24 v27 v30 v33 v34 X_arg1 X_arg2 X_arg7 X_arg8 X_arg9 X_arg10 init n).2, ∀ x : p.1.shape.Idx, p.2 x = goal P j (p.1.emb x) := by
  intro n
  induction n with
  | zero => exact fun _ => ⟨ha, fun p hp => absurd hp List.not_mem_nil⟩
  | succ n ih =>
    intro hn
    obtain ⟨h1, h2⟩ := ih (by omega)
    have e := st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v15 v16 v17 v18 v21 v24 v27 v30 v33 v34 X_arg1 X_arg2 X_arg7 X_arg8 X_arg9 X_arg10 init ⟨n, hn⟩
    refine ⟨(congrArg (Carried P j (st P (n + 1))) (congrArg Prod.fst e)).mpr (trip_carried 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v15 v16 v17 v18 v21 v24 v27 v30 v33 v34 X_arg1 X_arg2 X_arg7 X_arg8 X_arg9 X_arg10 h ⟨n, hn⟩ _ h1), ?_⟩
    intro p hp
    have hp' := (congrArg (fun L => p ∈ L) (congrArg Prod.snd e)).mp hp
    rcases List.mem_append.1 hp' with hp | hp
    · exact trip_stores 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v15 v16 v17 v18 v21 v24 v27 v30 v33 v34 X_arg1 X_arg2 X_arg7 X_arg8 X_arg9 X_arg10 h ⟨n, hn⟩ _ h1 p hp
    · exact h2 p hp

end

end Cert.KernelIdeal.Conv
-- ==== Proof.KHost.lean ====
/-
  What the kernel's host lines hand the region, read at an index.
-/
module

public import proofs.«01_k».proof.Proof.KLoop
public import proofs.«01_k».proof.Proof.Gen.KernelIdeal.Frame
public import Idealize.ShloMosaic.Lib.IdealHost
public import Idealize.ShloMosaic.Lib.Claim
public import Idealize.ShloMosaic.Lib.Pipeline.ValueKit

@[expose] public section

set_option maxRecDepth 16384

noncomputable section

open Idealize.ShloMosaic Idealize.ShloMosaic.TcCoe Idealize.ShloMosaic.Tactic Idealize.SL.Sem

namespace Cert.KernelIdeal.Conv

open Cert.KernelIdeal Cert.KernelIdeal.Gen Cert.Dcrnn

/-! ### The weights as the host lines lay them out -/

/-- One weight, its rows regrouped and widened. -/
def prepG0 (x : FVec Ideal S330x128 .f32) : FVec Ideal S128x640 .f32 :=
  shapeCast S128x640 (transpose S128x5x128 [1, 0, 2]
    (concatenate S5x128x128 1
      [⟨S5x64x128, pad S5x64x128 ![0, 0, 0] ![0, 62, 0] ![0, 0, 0]
          (extractStridedSlice S5x2x128 ![0, 0, 0] (shapeCast S5x66x128 x shapeCasts_S330x128_S5x66x128) slices_S5x66x128_S5x2x128_0_0_0)
          (sitofp .f32 (constantI S_ 32 0#32)) pads_S5x2x128_S5x64x128_000_0620_000 h_S_⟩,
       ⟨S5x64x128, extractStridedSlice S5x64x128 ![0, 2, 0] (shapeCast S5x66x128 x shapeCasts_S330x128_S5x66x128) slices_S5x66x128_S5x64x128_0_2_0⟩]
      concatenates_S5x64x128_S5x64x128_S5x128x128_d1) transposes_S5x128x128_S128x5x128_1_0_2) shapeCasts_S128x5x128_S128x640

theorem prepG0_at (x : FVec Ideal S330x128 .f32) (C : Cell 66)
    (hx : ∀ (k : Fin 5) (q : Fin 66) o, x (ix2 (⟨k.val * 66 + q.val, by omega⟩ : Fin 330) o) = ((C.Wg k q o : ℝ) : EReal))
    (q : Fin 128) (k : Fin 5) (o : Fin 128) :
    prepG0 x (ix2 q (⟨k.val * 128 + o.val, by omega⟩ : Fin 640)) = ((C.widen.Wg k q o : ℝ) : EReal) := by
  pointwise [prepG0]
  show _ = (((if h : q.val < 2 then C.Wg k ⟨q.val, by omega⟩ o else if q.val < 64 then 0 else C.Wg k ⟨q.val - 62, by omega⟩ o) : ℝ) : EReal)
  by_cases h1 : q.val < 64
  · by_cases h2 : q.val < 2
    · rw [dif_pos h1, dif_pos h2, dif_pos h2]
      exact hx k ⟨q.val, by omega⟩ o
    · rw [dif_pos h1, dif_neg h2, dif_neg h2, if_pos h1]
      exact zero_word
  · rw [dif_neg h1, dif_neg (by omega), if_neg h1]
    refine Eq.trans ?_ (hx k ⟨q.val - 62, by omega⟩ o)
    congr 2
    exact Fin.ext (show k.val * 66 + (2 + (q.val - 64)) = k.val * 66 + (q.val - 62) by omega)

/-- One weight, its rows regrouped and widened. -/
def prepC0 (x : FVec Ideal S330x64 .f32) : FVec Ideal S128x320 .f32 :=
  shapeCast S128x320 (transpose S128x5x64 [1, 0, 2]
    (concatenate S5x128x64 1
      [⟨S5x64x64, pad S5x64x64 ![0, 0, 0] ![0, 62, 0] ![0, 0, 0]
          (extractStridedSlice S5x2x64 ![0, 0, 0] (shapeCast S5x66x64 x shapeCasts_S330x64_S5x66x64) slices_S5x66x64_S5x2x64_0_0_0)
          (sitofp .f32 (constantI S_ 32 0#32)) pads_S5x2x64_S5x64x64_000_0620_000 h_S_⟩,
       ⟨S5x64x64, extractStridedSlice S5x64x64 ![0, 2, 0] (shapeCast S5x66x64 x shapeCasts_S330x64_S5x66x64) slices_S5x66x64_S5x64x64_0_2_0⟩]
      concatenates_S5x64x64_S5x64x64_S5x128x64_d1) transposes_S5x128x64_S128x5x64_1_0_2) shapeCasts_S128x5x64_S128x320

theorem prepC0_at (x : FVec Ideal S330x64 .f32) (C : Cell 66)
    (hx : ∀ (k : Fin 5) (q : Fin 66) o, x (ix2 (⟨k.val * 66 + q.val, by omega⟩ : Fin 330) o) = ((C.Wc k q o : ℝ) : EReal))
    (q : Fin 128) (k : Fin 5) (o : Fin 64) :
    prepC0 x (ix2 q (⟨k.val * 64 + o.val, by omega⟩ : Fin 320)) = ((C.widen.Wc k q o : ℝ) : EReal) := by
  pointwise [prepC0]
  show _ = (((if h : q.val < 2 then C.Wc k ⟨q.val, by omega⟩ o else if q.val < 64 then 0 else C.Wc k ⟨q.val - 62, by omega⟩ o) : ℝ) : EReal)
  by_cases h1 : q.val < 64
  · by_cases h2 : q.val < 2
    · rw [dif_pos h1, dif_pos h2, dif_pos h2]
      exact hx k ⟨q.val, by omega⟩ o
    · rw [dif_pos h1, dif_neg h2, dif_neg h2, if_pos h1]
      exact zero_word
  · rw [dif_neg h1, dif_neg (by omega), if_neg h1]
    refine Eq.trans ?_ (hx k ⟨q.val - 62, by omega⟩ o)
    congr 2
    exact Fin.ext (show k.val * 66 + (2 + (q.val - 64)) = k.val * 66 + (q.val - 62) by omega)

/-- One weight, its rows regrouped. -/
def prepG1 (x : FVec Ideal S640x128 .f32) : FVec Ideal S128x640 .f32 :=
  shapeCast S128x640 (transpose S128x5x128 [1, 0, 2]
    (concatenate S5x128x128 1
      [⟨S5x64x128, pad S5x64x128 ![0, 0, 0] ![0, 0, 0] ![0, 0, 0]
          (extractStridedSlice S5x64x128 ![0, 0, 0] (shapeCast S5x128x128 x shapeCasts_S640x128_S5x128x128) slices_S5x128x128_S5x64x128_0_0_0)
          (sitofp .f32 (constantI S_ 32 0#32)) pads_S5x64x128_S5x64x128_000_000_000 h_S_⟩,
       ⟨S5x64x128, extractStridedSlice S5x64x128 ![0, 64, 0] (shapeCast S5x128x128 x shapeCasts_S640x128_S5x128x128) slices_S5x128x128_S5x64x128_0_64_0⟩]
      concatenates_S5x64x128_S5x64x128_S5x128x128_d1) transposes_S5x128x128_S128x5x128_1_0_2) shapeCasts_S128x5x128_S128x640

theorem prepG1_at (x : FVec Ideal S640x128 .f32) (C : Cell 128)
    (hx : ∀ (k : Fin 5) (q : Fin 128) o, x (ix2 (⟨k.val * 128 + q.val, by omega⟩ : Fin 640) o) = ((C.Wg k q o : ℝ) : EReal))
    (q : Fin 128) (k : Fin 5) (o : Fin 128) :
    prepG1 x (ix2 q (⟨k.val * 128 + o.val, by omega⟩ : Fin 640)) = ((C.Wg k q o : ℝ) : EReal) := by
  pointwise [prepG1]
  by_cases h1 : q.val < 64
  · rw [dif_pos h1, dif_pos h1]
    exact hx k q o
  · rw [dif_neg h1]
    refine Eq.trans ?_ (hx k q o)
    congr 2
    exact Fin.ext (show k.val * 128 + (64 + (q.val - 64)) = k.val * 128 + q.val by omega)

/-- One weight, its rows regrouped. -/
def prepC1 (x : FVec Ideal S640x64 .f32) : FVec Ideal S128x320 .f32 :=
  shapeCast S128x320 (transpose S128x5x64 [1, 0, 2]
    (concatenate S5x128x64 1
      [⟨S5x64x64, pad S5x64x64 ![0, 0, 0] ![0, 0, 0] ![0, 0, 0]
          (extractStridedSlice S5x64x64 ![0, 0, 0] (shapeCast S5x128x64 x shapeCasts_S640x64_S5x128x64) slices_S5x128x64_S5x64x64_0_0_0)
          (sitofp .f32 (constantI S_ 32 0#32)) pads_S5x64x64_S5x64x64_000_000_000 h_S_⟩,
       ⟨S5x64x64, extractStridedSlice S5x64x64 ![0, 64, 0] (shapeCast S5x128x64 x shapeCasts_S640x64_S5x128x64) slices_S5x128x64_S5x64x64_0_64_0⟩]
      concatenates_S5x64x64_S5x64x64_S5x128x64_d1) transposes_S5x128x64_S128x5x64_1_0_2) shapeCasts_S128x5x64_S128x320

theorem prepC1_at (x : FVec Ideal S640x64 .f32) (C : Cell 128)
    (hx : ∀ (k : Fin 5) (q : Fin 128) o, x (ix2 (⟨k.val * 128 + q.val, by omega⟩ : Fin 640) o) = ((C.Wc k q o : ℝ) : EReal))
    (q : Fin 128) (k : Fin 5) (o : Fin 64) :
    prepC1 x (ix2 q (⟨k.val * 64 + o.val, by omega⟩ : Fin 320)) = ((C.Wc k q o : ℝ) : EReal) := by
  pointwise [prepC1]
  by_cases h1 : q.val < 64
  · rw [dif_pos h1, dif_pos h1]
    exact hx k q o
  · rw [dif_neg h1]
    refine Eq.trans ?_ (hx k q o)
    congr 2
    exact Fin.ext (show k.val * 128 + (64 + (q.val - 64)) = k.val * 128 + q.val by omega)

section
variable (m : (ℓ : Loc nD τ sig) → Buf (Elt Ideal) ℓ) (c : Dev nD)

theorem host_v14 : (V m c main_v14 : FVec Ideal _ .f32) = prepG0 (m (c, Proc.tc.devRef main_arg4)) := by
  simp only [V, V0, hostOps0, hostOps0_1, hostOps0_2, hostOps0_3, hostOps0_4, hostOps0_5, hostOps0_6, hostOps0_7, hostOps0_8,
    List.flatten_cons, List.flatten_nil, List.cons_append, List.nil_append, List.append_nil]
  entry_read
  rfl

theorem host_v21 : (V m c main_v21 : FVec Ideal _ .f32) = prepC0 (m (c, Proc.tc.devRef main_arg6)) := by
  simp only [V, V0, hostOps0, hostOps0_1, hostOps0_2, hostOps0_3, hostOps0_4, hostOps0_5, hostOps0_6, hostOps0_7, hostOps0_8,
    List.flatten_cons, List.flatten_nil, List.cons_append, List.nil_append, List.append_nil]
  entry_read
  rfl

theorem host_v28 : (V m c main_v28 : FVec Ideal _ .f32) = prepG1 (m (c, Proc.tc.devRef main_arg8)) := by
  simp only [V, V0, hostOps0, hostOps0_1, hostOps0_2, hostOps0_3, hostOps0_4, hostOps0_5, hostOps0_6, hostOps0_7, hostOps0_8,
    List.flatten_cons, List.flatten_nil, List.cons_append, List.nil_append, List.append_nil]
  entry_read
  rfl

theorem host_v35 : (V m c main_v35 : FVec Ideal _ .f32) = prepC1 (m (c, Proc.tc.devRef main_arg10)) := by
  simp only [V, V0, hostOps0, hostOps0_1, hostOps0_2, hostOps0_3, hostOps0_4, hostOps0_5, hostOps0_6, hostOps0_7, hostOps0_8,
    List.flatten_cons, List.flatten_nil, List.cons_append, List.nil_append, List.append_nil]
  entry_read
  rfl

theorem host_v36 (o : Fin 128) : (V m c main_v36 (ix2 0 o) : EReal) = m (c, Proc.tc.devRef main_arg5) (ix1 o) := by
  simp only [V, V0, hostOps0, hostOps0_1, hostOps0_2, hostOps0_3, hostOps0_4, hostOps0_5, hostOps0_6, hostOps0_7, hostOps0_8,
    List.flatten_cons, List.flatten_nil, List.cons_append, List.nil_append, List.append_nil]
  entry_read
  pointwise

theorem host_v37 (o : Fin 64) : (V m c main_v37 (ix2 0 o) : EReal) = m (c, Proc.tc.devRef main_arg7) (ix1 o) := by
  simp only [V, V0, hostOps0, hostOps0_1, hostOps0_2, hostOps0_3, hostOps0_4, hostOps0_5, hostOps0_6, hostOps0_7, hostOps0_8,
    List.flatten_cons, List.flatten_nil, List.cons_append, List.nil_append, List.append_nil]
  entry_read
  pointwise

theorem host_v38 (o : Fin 128) : (V m c main_v38 (ix2 0 o) : EReal) = m (c, Proc.tc.devRef main_arg9) (ix1 o) := by
  simp only [V, V0, hostOps0, hostOps0_1, hostOps0_2, hostOps0_3, hostOps0_4, hostOps0_5, hostOps0_6, hostOps0_7, hostOps0_8,
    List.flatten_cons, List.flatten_nil, List.cons_append, List.nil_append, List.append_nil]
  entry_read
  pointwise

theorem host_v39 (o : Fin 64) : (V m c main_v39 (ix2 0 o) : EReal) = m (c, Proc.tc.devRef main_arg11) (ix1 o) := by
  simp only [V, V0, hostOps0, hostOps0_1, hostOps0_2, hostOps0_3, hostOps0_4, hostOps0_5, hostOps0_6, hostOps0_7, hostOps0_8,
    List.flatten_cons, List.flatten_nil, List.cons_append, List.nil_append, List.append_nil]
  entry_read
  pointwise

theorem host_v40 (o : Fin 2) : (V m c main_v40 (ix2 0 o) : EReal) = m (c, Proc.tc.devRef main_arg13) (ix1 o) := by
  simp only [V, V0, hostOps0, hostOps0_1, hostOps0_2, hostOps0_3, hostOps0_4, hostOps0_5, hostOps0_6, hostOps0_7, hostOps0_8,
    List.flatten_cons, List.flatten_nil, List.cons_append, List.nil_append, List.append_nil]
  entry_read
  pointwise

theorem host_v2 (t : Fin 12) (j : Fin 4) (i : Fin 325) (b : Fin 16) (k : Fin 2) : (V m c main_v2 (ix4 t j i (⟨b.val * 2 + k.val, by omega⟩ : Fin 32)) : EReal) = m (c, Proc.tc.devRef main_arg0) (ix4 (row j b) t i k) := by
  simp only [V, V0, hostOps0, hostOps0_1, hostOps0_2, hostOps0_3, hostOps0_4, hostOps0_5, hostOps0_6, hostOps0_7, hostOps0_8,
    List.flatten_cons, List.flatten_nil, List.cons_append, List.nil_append, List.append_nil]
  entry_read
  pointwise
  refine congrArg (m (c, Proc.tc.devRef main_arg0)) ?_
  have e1 : (b.val * 2 + k.val) / 2 = b.val := by omega
  have e2 : (b.val * 2 + k.val) % 2 = k.val := by omega
  simp only [row, e1, e2]

theorem host_v5 (i : Fin 325) (b : Fin 64) (q : Fin 64) : (V m c main_v5 (ix3 i b q) : EReal) = m (c, Proc.tc.devRef main_arg1) (ix4 0 b i q) := by
  simp only [V, V0, hostOps0, hostOps0_1, hostOps0_2, hostOps0_3, hostOps0_4, hostOps0_5, hostOps0_6, hostOps0_7, hostOps0_8,
    List.flatten_cons, List.flatten_nil, List.cons_append, List.nil_append, List.append_nil]
  entry_read
  pointwise

theorem host_v7 (i : Fin 325) (b : Fin 64) (q : Fin 64) : (V m c main_v7 (ix3 i b q) : EReal) = m (c, Proc.tc.devRef main_arg1) (ix4 1 b i q) := by
  simp only [V, V0, hostOps0, hostOps0_1, hostOps0_2, hostOps0_3, hostOps0_4, hostOps0_5, hostOps0_6, hostOps0_7, hostOps0_8,
    List.flatten_cons, List.flatten_nil, List.cons_append, List.nil_append, List.append_nil]
  entry_read
  pointwise

theorem host_cst (t : Fin 11) : (V m c main_cst (ix1 t) : EReal) = ((if forced t.val then 1 else 0 : ℝ) : EReal) := by
  simp only [V, V0, hostOps0, hostOps0_1, hostOps0_2, hostOps0_3, hostOps0_4, hostOps0_5, hostOps0_6, hostOps0_7, hostOps0_8,
    List.flatten_cons, List.flatten_nil, List.cons_append, List.nil_append, List.append_nil]
  entry_read
  show Ideal.ofBits FTy.f32 (lit0 (S11.rowMajor (ix1 t))) = _
  have e : S11.rowMajor (ix1 t) = t := by fin_cases t <;> rfl
  rw [e]
  fin_cases t <;> simp [lit0, forced, Ideal.ofBits_one_f32, Ideal.ofBits_zero_f32]

end

end Cert.KernelIdeal.Conv
-- ==== Proof.KBlock.lean ====
/-
  One grid point of the kernel: the block it stores holds the recurrence's predictions for its chunk of the batch.
-/
module

public import proofs.«01_k».proof.Proof.KHost

@[expose] public section

set_option maxRecDepth 16384

noncomputable section

open Idealize.ShloMosaic Idealize.ShloMosaic.TcCoe Idealize.ShloMosaic.Tactic Idealize.SL.Sem

namespace Cert.KernelIdeal.Conv

open Cert.KernelIdeal Cert.KernelIdeal.Gen Cert.Dcrnn

/-- The input blocks of chunk `j`. -/
structure Blocks (P : Par) (j : Fin 4) (x0 : Vec Ideal S12x1x325x32 .f32) (x1 : Vec Ideal S11 .f32) (x2 : Vec Ideal S325x16x64 .f32) (x3 : Vec Ideal S325x16x64 .f32) (x4 : Vec Ideal S325x325 .f32) (x5 : Vec Ideal S325x325 .f32) (x6 : Vec Ideal S128x640 .f32) (x7 : Vec Ideal S128x320 .f32) (x8 : Vec Ideal S128x640 .f32) (x9 : Vec Ideal S128x320 .f32) (x10 : Vec Ideal S1x128 .f32) (x11 : Vec Ideal S1x64 .f32) (x12 : Vec Ideal S1x128 .f32) (x13 : Vec Ideal S1x64 .f32) (x14 : Vec Ideal S64x2 .f32) (x15 : Vec Ideal S1x2 .f32) : Prop where
  seq : ∀ (t : Fin 12) i (b : Fin 16) (c : Fin 2), x0 (ix4 t 0 i (⟨b.val * 2 + c.val, by omega⟩ : Fin 32)) = ((P.seq t.val (row j b) i c : ℝ) : EReal)
  tf : ∀ t : Fin 11, x1 (ix1 t) = ((if forced t.val then 1 else 0 : ℝ) : EReal)
  s0 : ∀ i b q, x2 (ix3 i b q) = ((P.ini 0 (row j b) i q : ℝ) : EReal)
  s1 : ∀ i b q, x3 (ix3 i b q) = ((P.ini 1 (row j b) i q : ℝ) : EReal)
  A0 : ∀ i k, x4 (ix2 i k) = ((P.A0 i k : ℝ) : EReal)
  A1 : ∀ i k, x5 (ix2 i k) = ((P.A1 i k : ℝ) : EReal)
  wg0 : ∀ (k : Fin 5) q (o : Fin 128), x6 (ix2 q (⟨k.val * 128 + o.val, by omega⟩ : Fin 640)) = ((P.C0.widen.Wg k q o : ℝ) : EReal)
  wc0 : ∀ (k : Fin 5) q (o : Fin 64), x7 (ix2 q (⟨k.val * 64 + o.val, by omega⟩ : Fin 320)) = ((P.C0.widen.Wc k q o : ℝ) : EReal)
  wg1 : ∀ (k : Fin 5) q (o : Fin 128), x8 (ix2 q (⟨k.val * 128 + o.val, by omega⟩ : Fin 640)) = ((P.C1.Wg k q o : ℝ) : EReal)
  wc1 : ∀ (k : Fin 5) q (o : Fin 64), x9 (ix2 q (⟨k.val * 64 + o.val, by omega⟩ : Fin 320)) = ((P.C1.Wc k q o : ℝ) : EReal)
  bg0 : ∀ o, x10 (ix2 0 o) = P.C0.bg o
  bc0 : ∀ o, x11 (ix2 0 o) = P.C0.bc o
  bg1 : ∀ o, x12 (ix2 0 o) = P.C1.bg o
  bc1 : ∀ o, x13 (ix2 0 o) = P.C1.bc o
  Wp : ∀ q c, x14 (ix2 q c) = ((P.Wp q c : ℝ) : EReal)
  bp : ∀ c, x15 (ix2 0 c) = ((P.bp c : ℝ) : EReal)

/-- A whole buffer read back at zero offsets. -/
theorem full {sp : Space} {s : Shape} (M : Memref sig .tc sp s .f32) (hM : M.IsWhole) (X : Vec Ideal s .f32) {off : Fin s.rank → ℕ} (h0 : off = fun _ => 0)
    (inb : ∀ a, off a + s.size a ≤ s.size a) : View.readAt (Elt Ideal) M.view (Rect.unit off s.size inb).toLoadRect (hM.unread X) = X :=
  (View.readAt_eq_ld _ _ _).trans ((View.ld_unit_zero h0 _ _).trans (hM.read_unread X))

theorem pieces_eq (P : Par) (j : Fin 4) (c : Dev nD) (i : grid0.Coords) (arg1 : Memref sig .tc .vmem S12x1x325x32 .f32) (harg1 : arg1.IsWhole) (arg2 : Memref sig .tc .smem S11 .f32) (harg2 : arg2.IsWhole) (arg3 : Memref sig .tc .vmem S325x16x64 .f32) (harg3 : arg3.IsWhole) (arg4 : Memref sig .tc .vmem S325x16x64 .f32) (harg4 : arg4.IsWhole) (arg5 : Memref sig .tc .vmem S325x325 .f32) (harg5 : arg5.IsWhole) (arg6 : Memref sig .tc .vmem S325x325 .f32) (harg6 : arg6.IsWhole) (arg7 : Memref sig .tc .vmem S128x640 .f32) (harg7 : arg7.IsWhole) (arg8 : Memref sig .tc .vmem S128x320 .f32) (harg8 : arg8.IsWhole) (arg9 : Memref sig .tc .vmem S128x640 .f32) (harg9 : arg9.IsWhole) (arg10 : Memref sig .tc .vmem S128x320 .f32) (harg10 : arg10.IsWhole) (arg11 : Memref sig .tc .vmem S1x128 .f32) (harg11 : arg11.IsWhole) (arg12 : Memref sig .tc .vmem S1x64 .f32) (harg12 : arg12.IsWhole) (arg13 : Memref sig .tc .vmem S1x128 .f32) (harg13 : arg13.IsWhole) (arg14 : Memref sig .tc .vmem S1x64 .f32) (harg14 : arg14.IsWhole) (arg15 : Memref sig .tc .vmem S64x2 .f32) (harg15 : arg15.IsWhole) (arg16 : Memref sig .tc .vmem S1x2 .f32) (harg16 : arg16.IsWhole) (arg17 : Memref sig .tc .vmem S11x1x325x32 .f32) (harg17 : arg17.IsWhole)
    (x0 : Vec Ideal S12x1x325x32 .f32) (x1 : Vec Ideal S11 .f32) (x2 : Vec Ideal S325x16x64 .f32) (x3 : Vec Ideal S325x16x64 .f32) (x4 : Vec Ideal S325x325 .f32) (x5 : Vec Ideal S325x325 .f32) (x6 : Vec Ideal S128x640 .f32) (x7 : Vec Ideal S128x320 .f32) (x8 : Vec Ideal S128x640 .f32) (x9 : Vec Ideal S128x320 .f32) (x10 : Vec Ideal S1x128 .f32) (x11 : Vec Ideal S1x64 .f32) (x12 : Vec Ideal S1x128 .f32) (x13 : Vec Ideal S1x64 .f32) (x14 : Vec Ideal S64x2 .f32) (x15 : Vec Ideal S1x2 .f32) (h : Blocks P j x0 x1 x2 x3 x4 x5 x6 x7 x8 x9 x10 x11 x12 x13 x14 x15) :
    ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15).1, ∀ x : p.1.shape.Idx, p.2 x = goal P j (p.1.emb x) := by
  unfold kernelRun0_A
  dsimp only
  have e0 : kernelRun0_A.sl.r (F := Ideal) c arg5 harg5 x4 = k0_pay21 x4 := congrArg k0_pay21 (full arg5 harg5 x4 (by decide) _)
  have e1 : kernelRun0_A.sl.r_1 (F := Ideal) c arg5 harg5 x4 = k0_pay22 x4 := congrArg k0_pay22 (full arg5 harg5 x4 (by decide) _)
  have e2 : kernelRun0_A.sl.r_2 (F := Ideal) c arg6 harg6 x5 = k0_pay23 x5 := congrArg k0_pay23 (full arg6 harg6 x5 (by decide) _)
  have e3 : kernelRun0_A.sl.r_3 (F := Ideal) c arg6 harg6 x5 = k0_pay24 x5 := congrArg k0_pay24 (full arg6 harg6 x5 (by decide) _)
  have e4 : kernelRun0_A.sl.r_4 (F := Ideal) c arg11 harg11 x10 = k0_pay25 x10 := congrArg k0_pay25 (full arg11 harg11 x10 (by decide) _)
  have e5 : kernelRun0_A.sl.r_5 (F := Ideal) c arg12 harg12 x11 = k0_pay26 x11 := congrArg k0_pay26 (full arg12 harg12 x11 (by decide) _)
  have e6 : kernelRun0_A.sl.r_6 (F := Ideal) c arg13 harg13 x12 = k0_pay27 x12 := congrArg k0_pay27 (full arg13 harg13 x12 (by decide) _)
  have e7 : kernelRun0_A.sl.r_7 (F := Ideal) c arg14 harg14 x13 = k0_pay28 x13 := congrArg k0_pay28 (full arg14 harg14 x13 (by decide) _)
  have e8 : kernelRun0_A.sl.r_8 (F := Ideal) c arg16 harg16 x15 = k0_pay29 x15 := congrArg k0_pay29 (full arg16 harg16 x15 (by decide) _)
  have e9 : kernelRun0_A.sl.r_9 (F := Ideal) c arg15 harg15 x14 = x14 := full arg15 harg15 x14 (by decide) _
  have hl : Lines P j (kernelRun0_A.sl.r c arg5 harg5 x4) (kernelRun0_A.sl.r_1 c arg5 harg5 x4)
      (kernelRun0_A.sl.r_2 c arg6 harg6 x5) (kernelRun0_A.sl.r_3 c arg6 harg6 x5)
      (kernelRun0_A.sl.r_4 c arg11 harg11 x10) (kernelRun0_A.sl.r_5 c arg12 harg12 x11)
      (kernelRun0_A.sl.r_6 c arg13 harg13 x12) (kernelRun0_A.sl.r_7 c arg14 harg14 x13)
      (kernelRun0_A.sl.r_8 c arg16 harg16 x15) (kernelRun0_A.sl.r_9 c arg15 harg15 x14) (arg1.view.read (Elt Ideal) (harg1.unread x0)) (arg2.view.read (Elt Ideal) (harg2.unread x1))
      (arg7.view.read (Elt Ideal) (harg7.unread x6)) (arg8.view.read (Elt Ideal) (harg8.unread x7)) (arg9.view.read (Elt Ideal) (harg9.unread x8)) (arg10.view.read (Elt Ideal) (harg10.unread x9)) := by
    rw [e0, e1, e2, e3, e4, e5, e6, e7, e8, e9, harg1.read_unread, harg2.read_unread, harg7.read_unread, harg8.read_unread, harg9.read_unread, harg10.read_unread]
    exact
      { sup := supports_of x4 x5 P.A0 P.A1 h.A0 h.A1
        bg0 := fun o => (pay25_at x10 o).trans (h.bg0 o)
        bc0 := fun o => (pay26_at x11 o).trans (h.bc0 o)
        bg1 := fun o => (pay27_at x12 o).trans (h.bg1 o)
        bc1 := fun o => (pay28_at x13 o).trans (h.bc1 o)
        bp := fun o => (pay29_at x15 o).trans (h.bp o)
        Wp := h.Wp
        seq := h.seq
        tf := h.tf
        wg0 := h.wg0
        wc0 := h.wc0
        wg1 := h.wg1
        wc1 := h.wc1 }
  have e35 : ∀ i (b : Fin 16) (k : Fin 2), kernelRun0_A.sl.v35 (F := Ideal) c arg1 harg1 x0 (ix4 0 0 i (⟨b.val * 2 + k.val, by omega⟩ : Fin 32)) = (((st P 0).cur (row j b) i k : ℝ) : EReal) := fun i b k => by
    refine Eq.trans ?_ (h.seq 0 i b k)
    refine (View.ld_unit_apply_of (arg1.view.read (Elt Ideal) (harg1.unread x0)) ![0, 0, 0, 0] ![1, 1, 325, 32] _ _ (ix4 (0 : Fin 12) (0 : Fin 1) i (⟨b.val * 2 + k.val, by omega⟩ : Fin 32)) ?_).trans ?_
    · intro a
      fin_cases a
      · rfl
      · rfl
      · exact (Nat.zero_add _).symm
      · exact (Nat.zero_add _).symm
    · rw [harg1.read_unread]
  refine (loop_inv Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ _ _ _ _ _ _ _ hl _ ?_ _ (le_of_eq rfl)).2
  exact
    { cur := fun i b q => pay1_at _ (fun b => (st P 0).cur (row j b)) e35 i b q
      s0 := fun i b q => by
        rw [full arg3 harg3 x2 (by decide)]
        exact (show k0_pay2 (F := Ideal) x2 (ix3 i b q) = _ from by pointwise [k0_pay2]).trans (h.s0 i b q)
      s1 := fun i b q => by
        rw [full arg4 harg4 x3 (by decide)]
        exact (show k0_pay3 (F := Ideal) x3 (ix3 i b q) = _ from by pointwise [k0_pay3]).trans (h.s1 i b q) }

theorem out_eq (P : Par) (j : Fin 4) (c : Dev nD) (i : grid0.Coords) (arg1 : Memref sig .tc .vmem S12x1x325x32 .f32) (harg1 : arg1.IsWhole) (arg2 : Memref sig .tc .smem S11 .f32) (harg2 : arg2.IsWhole) (arg3 : Memref sig .tc .vmem S325x16x64 .f32) (harg3 : arg3.IsWhole) (arg4 : Memref sig .tc .vmem S325x16x64 .f32) (harg4 : arg4.IsWhole) (arg5 : Memref sig .tc .vmem S325x325 .f32) (harg5 : arg5.IsWhole) (arg6 : Memref sig .tc .vmem S325x325 .f32) (harg6 : arg6.IsWhole) (arg7 : Memref sig .tc .vmem S128x640 .f32) (harg7 : arg7.IsWhole) (arg8 : Memref sig .tc .vmem S128x320 .f32) (harg8 : arg8.IsWhole) (arg9 : Memref sig .tc .vmem S128x640 .f32) (harg9 : arg9.IsWhole) (arg10 : Memref sig .tc .vmem S128x320 .f32) (harg10 : arg10.IsWhole) (arg11 : Memref sig .tc .vmem S1x128 .f32) (harg11 : arg11.IsWhole) (arg12 : Memref sig .tc .vmem S1x64 .f32) (harg12 : arg12.IsWhole) (arg13 : Memref sig .tc .vmem S1x128 .f32) (harg13 : arg13.IsWhole) (arg14 : Memref sig .tc .vmem S1x64 .f32) (harg14 : arg14.IsWhole) (arg15 : Memref sig .tc .vmem S64x2 .f32) (harg15 : arg15.IsWhole) (arg16 : Memref sig .tc .vmem S1x2 .f32) (harg16 : arg16.IsWhole) (arg17 : Memref sig .tc .vmem S11x1x325x32 .f32) (harg17 : arg17.IsWhole)
    (x0 : Vec Ideal S12x1x325x32 .f32) (x1 : Vec Ideal S11 .f32) (x2 : Vec Ideal S325x16x64 .f32) (x3 : Vec Ideal S325x16x64 .f32) (x4 : Vec Ideal S325x325 .f32) (x5 : Vec Ideal S325x325 .f32) (x6 : Vec Ideal S128x640 .f32) (x7 : Vec Ideal S128x320 .f32) (x8 : Vec Ideal S128x640 .f32) (x9 : Vec Ideal S128x320 .f32) (x10 : Vec Ideal S1x128 .f32) (x11 : Vec Ideal S1x64 .f32) (x12 : Vec Ideal S1x128 .f32) (x13 : Vec Ideal S1x64 .f32) (x14 : Vec Ideal S64x2 .f32) (x15 : Vec Ideal S1x2 .f32) (h : Blocks P j x0 x1 x2 x3 x4 x5 x6 x7 x8 x9 x10 x11 x12 x13 x14 x15) :
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 = goal P j := by
  funext y
  exact View.read_writes_apply_of_pieces _ _ (goal P j) _ (pieces_eq P j c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 h) y
    (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 y)

end Cert.KernelIdeal.Conv
-- ==== Proof.Args.lean ====
/-
  The arguments as real numbers: the recurrence's parameters, and what the precondition says of the arguments.
-/
module

public import proofs.«01_k».proof.Pre_finite
public import proofs.«01_k».proof.Proof.Recur
public import Idealize.ShloMosaic.Lib.ReduceAll
public import Idealize.ShloMosaic.Lib.Affine

@[expose] public section

set_option maxRecDepth 16384

noncomputable section

open Idealize.ShloMosaic

namespace Cert.Pre_finite

/-- The shape relations the precondition's operations take. -/
theorem holds : Facts where
  bcast_S_S64x12x325x2 := by decide
  reducesTo_S64x12x325x2_S_d0_1_2_3 := by decide
  h_S_ := by decide
  bcast_S_S2x64x325x64 := by decide
  reducesTo_S2x64x325x64_S_d0_1_2_3 := by decide
  bcast_S_S325x325 := by decide
  reducesTo_S325x325_S_d0_1 := by decide
  bcast_S_S330x128 := by decide
  reducesTo_S330x128_S_d0_1 := by decide
  bcast_S_S330x64 := by decide
  reducesTo_S330x64_S_d0_1 := by decide
  bcast_S_S640x128 := by decide
  reducesTo_S640x128_S_d0_1 := by decide
  bcast_S_S640x64 := by decide
  reducesTo_S640x64_S_d0_1 := by decide
  bcast_S_S64x2 := by decide
  reducesTo_S64x2_S_d0_1 := by decide
  bcast_S_S2 := by decide
  reducesTo_S2_S_d0 := by decide

end Cert.Pre_finite

namespace Cert.Dcrnn

open Cert.Pre_finite

/-- The bit pattern of infinity. -/
theorem inf_word : Ideal.ofBits FTy.f32 0x7F800000#32 = (⊤ : EReal) := by
  simp [Ideal.ofBits, Ideal.ieee]

/-- A magnitude below infinity is a real number's. -/
theorem real_of_lt (x : EReal) (h : Ideal.cmp .olt (max x (-x)) (Ideal.ofBits .f32 0x7F800000#32) = 1#1) : x = ((x.toReal : ℝ) : EReal) := by
  rw [inf_word] at h
  have hlt : max x (-x) < ⊤ := by
    by_contra hn
    simp [Ideal.cmp, hn] at h
  induction x using EReal.rec with
  | bot => exact absurd hlt (by simp)
  | top => exact absurd hlt (by simp)
  | coe r => rfl

/-- Every element of an array of any shape is real. -/
def Real {S : Shape} (a : FVec Ideal S .f32) : Prop := ∀ i, a i = (((a i : EReal).toReal : ℝ) : EReal)

/-- Every argument but the gates' and candidates' biases is real. -/
structure AllReal (a0 : FVec Ideal S64x12x325x2 .f32) (a1 : FVec Ideal S2x64x325x64 .f32) (a2 : FVec Ideal S325x325 .f32) (a3 : FVec Ideal S325x325 .f32) (a4 : FVec Ideal S330x128 .f32) (a5 : FVec Ideal S128 .f32) (a6 : FVec Ideal S330x64 .f32) (a7 : FVec Ideal S64 .f32) (a8 : FVec Ideal S640x128 .f32) (a9 : FVec Ideal S128 .f32) (a10 : FVec Ideal S640x64 .f32) (a11 : FVec Ideal S64 .f32) (a12 : FVec Ideal S64x2 .f32) (a13 : FVec Ideal S2 .f32) : Prop where
  r0 : Real a0
  r1 : Real a1
  r2 : Real a2
  r3 : Real a3
  r4 : Real a4
  r6 : Real a6
  r8 : Real a8
  r10 : Real a10
  r12 : Real a12
  r13 : Real a13

theorem real_of_reduce {S : Shape} {axes : List (Fin S.rank)} (a : FVec Ideal S .f32) (hb : S_.BroadcastsInDim S (![] : Fin 0 → Fin S.rank))
    (hr : S.ReducesTo axes S_) (hu : 0 < S_.numel) (init : IVec S_ 1) (j : S_.Idx)
    (h : Host.reduce IntOp.andi (cmpf .olt (Host.absf a) (broadcastInDim S ![] hb (constant (F := Ideal) S_ .f32 0x7F800000#32))) init hr hu j = 1#1) : Real a := by
  have hs : Subsingleton S_.Idx := ⟨fun x y => funext fun k => k.elim0⟩
  exact fun i => real_of_lt _ (Host.reduce_andi_all _ init hr hu j h i)

variable [Facts] (a0 : FVec Ideal S64x12x325x2 .f32) (a1 : FVec Ideal S2x64x325x64 .f32) (a2 : FVec Ideal S325x325 .f32) (a3 : FVec Ideal S325x325 .f32) (a4 : FVec Ideal S330x128 .f32) (a5 : FVec Ideal S128 .f32) (a6 : FVec Ideal S330x64 .f32) (a7 : FVec Ideal S64 .f32) (a8 : FVec Ideal S640x128 .f32) (a9 : FVec Ideal S128 .f32) (a10 : FVec Ideal S640x64 .f32) (a11 : FVec Ideal S64 .f32) (a12 : FVec Ideal S64x2 .f32) (a13 : FVec Ideal S2 .f32)

theorem allReal_of_pre (h : Cert.Pre_finite.fn (F := Ideal) a0 a1 a2 a3 a4 a5 a6 a7 a8 a9 a10 a11 a12 a13 = fun _ => 1#1) : AllReal a0 a1 a2 a3 a4 a5 a6 a7 a8 a9 a10 a11 a12 a13 := by
  have h0 := congrFun h (fun k => k.elim0)
  unfold fn fn_part1 fn_part2 at h0
  dsimp only at h0
  have split : ∀ x y : IVec S_ 1, ∀ j, andi x y j = 1#1 → x j = 1#1 ∧ y j = 1#1 := fun x y j e => IntOp.andi_eq_one.1 e
  obtain ⟨h1, e13⟩ := split _ _ _ h0
  obtain ⟨h2, e12⟩ := split _ _ _ h1
  obtain ⟨h3, e10⟩ := split _ _ _ h2
  obtain ⟨h4, e8⟩ := split _ _ _ h3
  obtain ⟨h5, e6⟩ := split _ _ _ h4
  obtain ⟨h6, e4⟩ := split _ _ _ h5
  obtain ⟨h7, e3⟩ := split _ _ _ h6
  obtain ⟨h8, e2⟩ := split _ _ _ h7
  obtain ⟨h9, e1⟩ := split _ _ _ h8
  obtain ⟨h10, e0⟩ := split _ _ _ h9
  exact ⟨real_of_reduce _ _ _ _ _ _ e0, real_of_reduce _ _ _ _ _ _ e1, real_of_reduce _ _ _ _ _ _ e2, real_of_reduce _ _ _ _ _ _ e3, real_of_reduce _ _ _ _ _ _ e4, real_of_reduce _ _ _ _ _ _ e6, real_of_reduce _ _ _ _ _ _ e8, real_of_reduce _ _ _ _ _ _ e10, real_of_reduce _ _ _ _ _ _ e12, real_of_reduce _ _ _ _ _ _ e13⟩

/-- The recurrence's parameters, read off the arguments. -/
def par : Par where
  A0 i j := (a2 (ix2 i j) : EReal).toReal
  A1 i j := (a3 (ix2 i j) : EReal).toReal
  C0 :=
    { Wg := fun k q o => (a4 (ix2 (⟨k.val * 66 + q.val, by omega⟩ : Fin 330) o) : EReal).toReal
      bg := fun o => a5 (ix1 o)
      Wc := fun k q o => (a6 (ix2 (⟨k.val * 66 + q.val, by omega⟩ : Fin 330) o) : EReal).toReal
      bc := fun o => a7 (ix1 o) }
  C1 :=
    { Wg := fun k q o => (a8 (ix2 (⟨k.val * 128 + q.val, by omega⟩ : Fin 640) o) : EReal).toReal
      bg := fun o => a9 (ix1 o)
      Wc := fun k q o => (a10 (ix2 (⟨k.val * 128 + q.val, by omega⟩ : Fin 640) o) : EReal).toReal
      bc := fun o => a11 (ix1 o) }
  Wp q c := (a12 (ix2 q c) : EReal).toReal
  bp c := (a13 (ix1 c) : EReal).toReal
  inp b t i c := (a0 (ix4 b t i c) : EReal).toReal
  ini l b i q := (a1 (ix4 l b i q) : EReal).toReal

end Cert.Dcrnn
-- ==== Proof.KArray.lean ====
/-
  The kernel's result array: every chunk's blocks are the arguments', and the output array holds every prediction.
-/
module

public import proofs.«01_k».proof.Proof.KBlock
public import proofs.«01_k».proof.Proof.Args

@[expose] public section

set_option maxRecDepth 16384

noncomputable section

open Idealize.ShloMosaic Idealize.ShloMosaic.TcCoe Idealize.ShloMosaic.Tactic Idealize.SL.Sem
open Idealize.ShloMosaic.Pipeline (Dat)

namespace Cert.KernelIdeal.Conv

open Cert.KernelIdeal Cert.KernelIdeal.Gen Cert.Dcrnn

variable (m : (ℓ : Loc nD τ sig) → Buf (Elt Ideal) ℓ) (c : Dev nD)

/-- The windows' block indices. -/
theorem idx : ∀ t : Fin cfg0.N, win0_0.index t = ![0, t.val, 0, 0] ∧ win0_1.index t = ![0] ∧ win0_2.index t = ![0, t.val, 0] ∧ win0_3.index t = ![0, t.val, 0]
    ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, t.val, 0, 0] :=
  (by decide +kernel : ∀ t : Fin grid0.N, _)

/-- The chunk a grid point takes. -/
def chunk (t : Fin cfg0.N) : Fin 4 := ⟨t.val, lt_of_lt_of_eq t.isLt (by decide +kernel)⟩

/-- The arguments are real. -/
abbrev MReal : Prop := AllReal (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13))

/-- The parameters the arguments hold. -/
abbrev parOf : Par := par (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13))

theorem blk0 (t : Fin cfg0.N) (a : Fin 12) (i : Fin 325) (q : Fin 32) :
    (iblk m c 0 t : Vec Ideal S12x1x325x32 .f32) (ix4 a 0 i q) = V m c main_v2 (ix4 a (chunk t) i q) := by
  blk_ext [iblk, idx t, chunk]
theorem blk1 (t : Fin cfg0.N) (a : Fin 11) : (iblk m c 1 t : Vec Ideal S11 .f32) (ix1 a) = V m c main_cst (ix1 a) := by
  blk_ext [iblk, idx t]
theorem blk2 (t : Fin cfg0.N) (i : Fin 325) (b : Fin 16) (q : Fin 64) :
    (iblk m c 2 t : Vec Ideal S325x16x64 .f32) (ix3 i b q) = V m c main_v5 (ix3 i (row (chunk t) b) q) := by
  blk_ext [iblk, idx t, chunk, row]
theorem blk3 (t : Fin cfg0.N) (i : Fin 325) (b : Fin 16) (q : Fin 64) :
    (iblk m c 3 t : Vec Ideal S325x16x64 .f32) (ix3 i b q) = V m c main_v7 (ix3 i (row (chunk t) b) q) := by
  blk_ext [iblk, idx t, chunk, row]
theorem blk4 (t : Fin cfg0.N) (p : Fin 325) (q : Fin 325) : (iblk m c 4 t : Vec Ideal S325x325 .f32) (ix2 p q) = m (c, Proc.tc.devRef main_arg2) (ix2 p q) := by
  blk_ext [iblk, V, idx t]
theorem blk5 (t : Fin cfg0.N) (p : Fin 325) (q : Fin 325) : (iblk m c 5 t : Vec Ideal S325x325 .f32) (ix2 p q) = m (c, Proc.tc.devRef main_arg3) (ix2 p q) := by
  blk_ext [iblk, V, idx t]
theorem blk6 (t : Fin cfg0.N) (p : Fin 128) (q : Fin 640) : (iblk m c 6 t : Vec Ideal S128x640 .f32) (ix2 p q) = V m c main_v14 (ix2 p q) := by
  blk_ext [iblk, idx t]
theorem blk7 (t : Fin cfg0.N) (p : Fin 128) (q : Fin 320) : (iblk m c 7 t : Vec Ideal S128x320 .f32) (ix2 p q) = V m c main_v21 (ix2 p q) := by
  blk_ext [iblk, idx t]
theorem blk8 (t : Fin cfg0.N) (p : Fin 128) (q : Fin 640) : (iblk m c 8 t : Vec Ideal S128x640 .f32) (ix2 p q) = V m c main_v28 (ix2 p q) := by
  blk_ext [iblk, idx t]
theorem blk9 (t : Fin cfg0.N) (p : Fin 128) (q : Fin 320) : (iblk m c 9 t : Vec Ideal S128x320 .f32) (ix2 p q) = V m c main_v35 (ix2 p q) := by
  blk_ext [iblk, idx t]
theorem blk10 (t : Fin cfg0.N) (p : Fin 1) (q : Fin 128) : (iblk m c 10 t : Vec Ideal S1x128 .f32) (ix2 p q) = V m c main_v36 (ix2 p q) := by
  blk_ext [iblk, idx t]
theorem blk11 (t : Fin cfg0.N) (p : Fin 1) (q : Fin 64) : (iblk m c 11 t : Vec Ideal S1x64 .f32) (ix2 p q) = V m c main_v37 (ix2 p q) := by
  blk_ext [iblk, idx t]
theorem blk12 (t : Fin cfg0.N) (p : Fin 1) (q : Fin 128) : (iblk m c 12 t : Vec Ideal S1x128 .f32) (ix2 p q) = V m c main_v38 (ix2 p q) := by
  blk_ext [iblk, idx t]
theorem blk13 (t : Fin cfg0.N) (p : Fin 1) (q : Fin 64) : (iblk m c 13 t : Vec Ideal S1x64 .f32) (ix2 p q) = V m c main_v39 (ix2 p q) := by
  blk_ext [iblk, idx t]
theorem blk14 (t : Fin cfg0.N) (p : Fin 64) (q : Fin 2) : (iblk m c 14 t : Vec Ideal S64x2 .f32) (ix2 p q) = m (c, Proc.tc.devRef main_arg12) (ix2 p q) := by
  blk_ext [iblk, V, idx t]
theorem blk15 (t : Fin cfg0.N) (p : Fin 1) (q : Fin 2) : (iblk m c 15 t : Vec Ideal S1x2 .f32) (ix2 p q) = V m c main_v40 (ix2 p q) := by
  blk_ext [iblk, idx t]

theorem blocks (h : MReal m c) (t : Fin cfg0.N) : Blocks (parOf m c) (chunk t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) where
  seq := fun a i b k => (blk0 m c t a i _).trans ((host_v2 m c a (chunk t) i b k).trans ((h.r0 _).trans (by
    show _ = (((if g : a.val < 12 then (parOf m c).inp (row (chunk t) b) ⟨a.val, g⟩ i k else 0 : ℝ)) : EReal)
    rw [dif_pos a.isLt]
    rfl)))
  tf := fun a => (blk1 m c t a).trans (host_cst m c a)
  s0 := fun i b q => (blk2 m c t i b q).trans ((host_v5 m c i _ q).trans (h.r1 _))
  s1 := fun i b q => (blk3 m c t i b q).trans ((host_v7 m c i _ q).trans (h.r1 _))
  A0 := fun i k => (blk4 m c t i k).trans (h.r2 _)
  A1 := fun i k => (blk5 m c t i k).trans (h.r3 _)
  wg0 := fun k q o => (blk6 m c t q _).trans ((congrFun (host_v14 m c) _).trans (prepG0_at _ (parOf m c).C0 (fun k q o => h.r4 _) q k o))
  wc0 := fun k q o => (blk7 m c t q _).trans ((congrFun (host_v21 m c) _).trans (prepC0_at _ (parOf m c).C0 (fun k q o => h.r6 _) q k o))
  wg1 := fun k q o => (blk8 m c t q _).trans ((congrFun (host_v28 m c) _).trans (prepG1_at _ (parOf m c).C1 (fun k q o => h.r8 _) q k o))
  wc1 := fun k q o => (blk9 m c t q _).trans ((congrFun (host_v35 m c) _).trans (prepC1_at _ (parOf m c).C1 (fun k q o => h.r10 _) q k o))
  bg0 := fun o => (blk10 m c t 0 o).trans (host_v36 m c o)
  bc0 := fun o => (blk11 m c t 0 o).trans (host_v37 m c o)
  bg1 := fun o => (blk12 m c t 0 o).trans (host_v38 m c o)
  bc1 := fun o => (blk13 m c t 0 o).trans (host_v39 m c o)
  Wp := fun q k => (blk14 m c t q k).trans (h.r12 _)
  bp := fun k => (blk15 m c t 0 k).trans ((host_v40 m c k).trans (h.r13 _))

/-- The array the kernel leaves. -/
def whole (P : Par) (y : S11x4x325x32.Idx) : EReal := goal P (y 1) (ix4 (y 0) (0 : Fin 1) (y 2) (y 3))

theorem final (h : MReal m c) : (dats m 0 c).arrAt 16 (cfgs 0).N = whole (parOf m c) := by
  refine (dats m 0 c).arrAt_eq_of_covers 16 _ (by decide +kernel) fun t _ y => ?_
  blk_simp
  rw [after0_16]
  have e : outsAt0 m c t = goal (parOf m c) (chunk t) := out_eq (parOf m c) (chunk t) c _ _ _ _ _ _ _ _ _ _ _ _ _ _ _ _ _ _ _ _ _ _ _ _ _ _ _ _ _ _ _ _ _ _ _ _ _ _ _ _ _ _ _ _ _ _ _ _ _ _ _ (blocks m c h t)
  rw [e]
  unfold whole
  have e1 : ((win0_16.blk t).view.emb y 1 : Fin 4) = chunk t := Fin.ext (by blk_simp [idx t, chunk])
  have ey : (y : S11x1x325x32.Idx) = ix4 ((win0_16.blk t).view.emb y 0) (0 : Fin 1) ((win0_16.blk t).view.emb y 2) ((win0_16.blk t).view.emb y 3) := by
    blk_ext [idx t]
  exact (congrArg (goal (parOf m c) (chunk t)) ey).trans (congrArg (fun j => goal (parOf m c) j _) e1.symm)

end Cert.KernelIdeal.Conv
-- ==== Proof.RConv.lean ====
/-
  The reference's graph convolution and cell read at an index, at both channel counts: every entry is the recurrence's.
-/
module

public import proofs.«01_k».proof.Proof.Gen.ReferenceIdeal.Step
public import proofs.«01_k».proof.Proof.Recur
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.ReferenceIdeal.Conv

open Cert.ReferenceIdeal Cert.ReferenceIdeal.Gen Cert.Dcrnn

/-- The logistic function as the host spells it. -/
def sigm (x : FVec Ideal S64x325x128 .f32) : FVec Ideal S64x325x128 .f32 :=
  Host.divf (broadcastInDim S64x325x128 ![] bcast_S_S64x325x128 (constant S_ .f32 0x3F800000#32))
    (addf (broadcastInDim S64x325x128 ![] bcast_S_S64x325x128 (constant S_ .f32 0x3F800000#32)) (Host.exp (Host.negf x)))

theorem sigm_at (x : FVec Ideal S64x325x128 .f32) (j : S64x325x128.Idx) : sigm x j = Ideal.logistic (x j) := by
  have h1 : (Ideal.ofBits .f32 0x3F800000#32 : EReal) = 1 := Ideal.ofBits_one_f32
  show Ideal.div (Ideal.ofBits .f32 0x3F800000#32) (Ideal.ofBits .f32 0x3F800000#32 + Ideal.exp (-(x j))) = _
  rw [h1]; rfl

/-- A support applied to a signal of 66 channels. -/
def prop66 (A : FVec Ideal S325x325 .f32) (x : FVec Ideal S64x325x66 .f32) : FVec Ideal S64x325x66 .f32 :=
  transpose S64x325x66 [0, 2, 1] (Host.dotGeneral (φ₁ := .f32) (φ₂ := .f32) dot_S64x325x66_S325x325_S64x66x325_1_1_02_0_n_n none x A : FVec Ideal S64x66x325 .f32)
    transposes_S64x66x325_S64x325x66_0_2_1

/-- Its second Chebyshev term. -/
def cheb66 (A : FVec Ideal S325x325 .f32) (x : FVec Ideal S64x325x66 .f32) : FVec Ideal S64x325x66 .f32 :=
  subf (mulf (broadcastInDim S64x325x66 ![] bcast_S_S64x325x66 (constant S_ .f32 0x40000000#32)) (prop66 A (prop66 A x))) x

theorem prop66_at (A : FVec Ideal S325x325 .f32) (x : FVec Ideal S64x325x66 .f32) (a : Fin 325 → Fin 325 → ℝ)
    (xr : Fin 64 → Fin 325 → Fin 66 → ℝ) (hA : ∀ i j, A (ix2 i j) = ((a i j : ℝ) : EReal))
    (hx : ∀ b i q, x (ix3 b i q) = ((xr b i q : ℝ) : EReal)) (b : Fin 64) (i : Fin 325) (q : Fin 66) :
    prop66 A x (ix3 b i q) = ((prop a (xr b) i q : ℝ) : EReal) := by
  pointwise [prop66]
  simp only [hA, hx, ← EReal.coe_mul, ← coe_sum, prop]
  refine congrArg _ (Finset.sum_congr rfl fun m _ => mul_comm _ _)

theorem cheb66_at (A : FVec Ideal S325x325 .f32) (x : FVec Ideal S64x325x66 .f32) (a : Fin 325 → Fin 325 → ℝ)
    (xr : Fin 64 → Fin 325 → Fin 66 → ℝ) (hA : ∀ i j, A (ix2 i j) = ((a i j : ℝ) : EReal))
    (hx : ∀ b i q, x (ix3 b i q) = ((xr b i q : ℝ) : EReal)) (b : Fin 64) (i : Fin 325) (q : Fin 66) :
    cheb66 A x (ix3 b i q) = ((cheb a (xr b) i q : ℝ) : EReal) := by
  have h2 := prop66_at A (prop66 A x) a (fun b => prop a (xr b)) hA (prop66_at A x a xr hA hx) b i q
  unfold cheb66
  generalize prop66 A (prop66 A x) = y at h2 ⊢
  pointwise
  rw [two, h2, hx, ← EReal.coe_mul, ← EReal.coe_sub]
  rfl

/-- The convolution's contraction with the weights (66 channels to 128), of the signal's five forms. -/
def mix66_128 (W : FVec Ideal S330x128 .f32) (bias : FVec Ideal S128 .f32) (x0 x1 x2 x3 x4 : FVec Ideal S64x325x66 .f32) :
    FVec Ideal S64x325x128 .f32 :=
  addf (Host.dotGeneral (φ₁ := .f32) (φ₂ := .f32) dot_S64x325x330_S330x128_S64x325x128_2_0_01_1_n_n none
      (concatenate S64x325x330 2 [⟨S64x325x66, (x0 : FVec Ideal S64x325x66 .f32)⟩, ⟨S64x325x66, (x1 : FVec Ideal S64x325x66 .f32)⟩, ⟨S64x325x66, (x2 : FVec Ideal S64x325x66 .f32)⟩, ⟨S64x325x66, (x3 : FVec Ideal S64x325x66 .f32)⟩, ⟨S64x325x66, (x4 : FVec Ideal S64x325x66 .f32)⟩]
        concatenates_S64x325x66_S64x325x66_S64x325x66_S64x325x66_S64x325x66_S64x325x330_d2 : FVec Ideal S64x325x330 .f32) W)
    (broadcastInDim S64x325x128 ![0, 1, 2] bcast_S1x1x128_S64x325x128_0_1_2 (broadcastInDim S1x1x128 ![2] bcast_S128_S1x1x128_2 bias))

theorem mix66_128_at (W : FVec Ideal S330x128 .f32) (bias : FVec Ideal S128 .f32) (x0 x1 x2 x3 x4 : FVec Ideal S64x325x66 .f32)
    (r0 r1 r2 r3 r4 : Fin 64 → Fin 325 → Fin 66 → ℝ) (wr : Fin 5 → Fin 66 → Fin 128 → ℝ)
    (h0 : ∀ b i q, x0 (ix3 b i q) = ((r0 b i q : ℝ) : EReal)) (h1 : ∀ b i q, x1 (ix3 b i q) = ((r1 b i q : ℝ) : EReal))
    (h2 : ∀ b i q, x2 (ix3 b i q) = ((r2 b i q : ℝ) : EReal)) (h3 : ∀ b i q, x3 (ix3 b i q) = ((r3 b i q : ℝ) : EReal))
    (h4 : ∀ b i q, x4 (ix3 b i q) = ((r4 b i q : ℝ) : EReal))
    (hw : ∀ (k : Fin 5) (q : Fin 66) o, W (ix2 (⟨k.val * 66 + q.val, by omega⟩ : Fin 330) o) = ((wr k q o : ℝ) : EReal))
    (b : Fin 64) (i : Fin 325) (o : Fin 128) :
    mix66_128 W bias x0 x1 x2 x3 x4 (ix3 b i o)
      = bias (ix1 o) + (((∑ q, r0 b i q * wr 0 q o) + (∑ q, r1 b i q * wr 1 q o) + (∑ q, r2 b i q * wr 2 q o)
        + (∑ q, r3 b i q * wr 3 q o) + (∑ q, r4 b i q * wr 4 q o) : ℝ) : EReal) := by
  have c0 : ∀ q : Fin 66, concatenate S64x325x330 2 [⟨S64x325x66, (x0 : FVec Ideal S64x325x66 .f32)⟩, ⟨S64x325x66, (x1 : FVec Ideal S64x325x66 .f32)⟩, ⟨S64x325x66, (x2 : FVec Ideal S64x325x66 .f32)⟩, ⟨S64x325x66, (x3 : FVec Ideal S64x325x66 .f32)⟩, ⟨S64x325x66, (x4 : FVec Ideal S64x325x66 .f32)⟩]
      concatenates_S64x325x66_S64x325x66_S64x325x66_S64x325x66_S64x325x66_S64x325x330_d2 (ix3 b i (⟨0 * 66 + q.val, by omega⟩ : Fin 330)) = ((r0 b i q : ℝ) : EReal) := by
    intro q
    pointwise
    first
    | exact h0 b i q
    | split_ifs <;> first
      | (exfalso; omega)
      | exact (congrArg (fun z => x0 (ix3 b i z)) (Fin.ext (by dsimp only; omega))).trans (h0 b i q)
  have c1 : ∀ q : Fin 66, concatenate S64x325x330 2 [⟨S64x325x66, (x0 : FVec Ideal S64x325x66 .f32)⟩, ⟨S64x325x66, (x1 : FVec Ideal S64x325x66 .f32)⟩, ⟨S64x325x66, (x2 : FVec Ideal S64x325x66 .f32)⟩, ⟨S64x325x66, (x3 : FVec Ideal S64x325x66 .f32)⟩, ⟨S64x325x66, (x4 : FVec Ideal S64x325x66 .f32)⟩]
      concatenates_S64x325x66_S64x325x66_S64x325x66_S64x325x66_S64x325x66_S64x325x330_d2 (ix3 b i (⟨1 * 66 + q.val, by omega⟩ : Fin 330)) = ((r1 b i q : ℝ) : EReal) := by
    intro q
    pointwise
    first
    | exact h1 b i q
    | split_ifs <;> first
      | (exfalso; omega)
      | exact (congrArg (fun z => x1 (ix3 b i z)) (Fin.ext (by dsimp only; omega))).trans (h1 b i q)
  have c2 : ∀ q : Fin 66, concatenate S64x325x330 2 [⟨S64x325x66, (x0 : FVec Ideal S64x325x66 .f32)⟩, ⟨S64x325x66, (x1 : FVec Ideal S64x325x66 .f32)⟩, ⟨S64x325x66, (x2 : FVec Ideal S64x325x66 .f32)⟩, ⟨S64x325x66, (x3 : FVec Ideal S64x325x66 .f32)⟩, ⟨S64x325x66, (x4 : FVec Ideal S64x325x66 .f32)⟩]
      concatenates_S64x325x66_S64x325x66_S64x325x66_S64x325x66_S64x325x66_S64x325x330_d2 (ix3 b i (⟨2 * 66 + q.val, by omega⟩ : Fin 330)) = ((r2 b i q : ℝ) : EReal) := by
    intro q
    pointwise
    first
    | exact h2 b i q
    | split_ifs <;> first
      | (exfalso; omega)
      | exact (congrArg (fun z => x2 (ix3 b i z)) (Fin.ext (by dsimp only; omega))).trans (h2 b i q)
  have c3 : ∀ q : Fin 66, concatenate S64x325x330 2 [⟨S64x325x66, (x0 : FVec Ideal S64x325x66 .f32)⟩, ⟨S64x325x66, (x1 : FVec Ideal S64x325x66 .f32)⟩, ⟨S64x325x66, (x2 : FVec Ideal S64x325x66 .f32)⟩, ⟨S64x325x66, (x3 : FVec Ideal S64x325x66 .f32)⟩, ⟨S64x325x66, (x4 : FVec Ideal S64x325x66 .f32)⟩]
      concatenates_S64x325x66_S64x325x66_S64x325x66_S64x325x66_S64x325x66_S64x325x330_d2 (ix3 b i (⟨3 * 66 + q.val, by omega⟩ : Fin 330)) = ((r3 b i q : ℝ) : EReal) := by
    intro q
    pointwise
    first
    | exact h3 b i q
    | split_ifs <;> first
      | (exfalso; omega)
      | exact (congrArg (fun z => x3 (ix3 b i z)) (Fin.ext (by dsimp only; omega))).trans (h3 b i q)
  have c4 : ∀ q : Fin 66, concatenate S64x325x330 2 [⟨S64x325x66, (x0 : FVec Ideal S64x325x66 .f32)⟩, ⟨S64x325x66, (x1 : FVec Ideal S64x325x66 .f32)⟩, ⟨S64x325x66, (x2 : FVec Ideal S64x325x66 .f32)⟩, ⟨S64x325x66, (x3 : FVec Ideal S64x325x66 .f32)⟩, ⟨S64x325x66, (x4 : FVec Ideal S64x325x66 .f32)⟩]
      concatenates_S64x325x66_S64x325x66_S64x325x66_S64x325x66_S64x325x66_S64x325x330_d2 (ix3 b i (⟨4 * 66 + q.val, by omega⟩ : Fin 330)) = ((r4 b i q : ℝ) : EReal) := by
    intro q
    pointwise
    first
    | exact h4 b i q
    | split_ifs <;> first
      | (exfalso; omega)
      | exact (congrArg (fun z => x4 (ix3 b i z)) (Fin.ext (by dsimp only; omega))).trans (h4 b i q)
  unfold mix66_128
  generalize concatenate S64x325x330 2 [⟨S64x325x66, (x0 : FVec Ideal S64x325x66 .f32)⟩, ⟨S64x325x66, (x1 : FVec Ideal S64x325x66 .f32)⟩, ⟨S64x325x66, (x2 : FVec Ideal S64x325x66 .f32)⟩, ⟨S64x325x66, (x3 : FVec Ideal S64x325x66 .f32)⟩, ⟨S64x325x66, (x4 : FVec Ideal S64x325x66 .f32)⟩]
      concatenates_S64x325x66_S64x325x66_S64x325x66_S64x325x66_S64x325x66_S64x325x330_d2 = X at c0 c1 c2 c3 c4 ⊢
  pointwise
  rw [sum_five (w := 66) (by rfl), Fin.sum_univ_five]
  have hw0 := fun q => hw 0 q o
  have hw1 := fun q => hw 1 q o
  have hw2 := fun q => hw 2 q o
  have hw3 := fun q => hw 3 q o
  have hw4 := fun q => hw 4 q o
  simp only [Fin.isValue, Fin.val_zero, Fin.val_one, Fin.val_two, show ((3 : Fin 5).val) = 3 from rfl, show ((4 : Fin 5).val) = 4 from rfl]
    at hw0 hw1 hw2 hw3 hw4 ⊢
  simp only [c0, c1, c2, c3, c4, hw0, hw1, hw2, hw3, hw4, ← EReal.coe_mul, ← coe_sum, ← EReal.coe_add]
  rw [add_comm]

/-- The convolution's contraction with the weights (66 channels to 64), of the signal's five forms. -/
def mix66_64 (W : FVec Ideal S330x64 .f32) (bias : FVec Ideal S64 .f32) (x0 x1 x2 x3 x4 : FVec Ideal S64x325x66 .f32) :
    FVec Ideal S64x325x64 .f32 :=
  addf (Host.dotGeneral (φ₁ := .f32) (φ₂ := .f32) dot_S64x325x330_S330x64_S64x325x64_2_0_01_1_n_n none
      (concatenate S64x325x330 2 [⟨S64x325x66, (x0 : FVec Ideal S64x325x66 .f32)⟩, ⟨S64x325x66, (x1 : FVec Ideal S64x325x66 .f32)⟩, ⟨S64x325x66, (x2 : FVec Ideal S64x325x66 .f32)⟩, ⟨S64x325x66, (x3 : FVec Ideal S64x325x66 .f32)⟩, ⟨S64x325x66, (x4 : FVec Ideal S64x325x66 .f32)⟩]
        concatenates_S64x325x66_S64x325x66_S64x325x66_S64x325x66_S64x325x66_S64x325x330_d2 : FVec Ideal S64x325x330 .f32) W)
    (broadcastInDim S64x325x64 ![0, 1, 2] bcast_S1x1x64_S64x325x64_0_1_2 (broadcastInDim S1x1x64 ![2] bcast_S64_S1x1x64_2 bias))

theorem mix66_64_at (W : FVec Ideal S330x64 .f32) (bias : FVec Ideal S64 .f32) (x0 x1 x2 x3 x4 : FVec Ideal S64x325x66 .f32)
    (r0 r1 r2 r3 r4 : Fin 64 → Fin 325 → Fin 66 → ℝ) (wr : Fin 5 → Fin 66 → Fin 64 → ℝ)
    (h0 : ∀ b i q, x0 (ix3 b i q) = ((r0 b i q : ℝ) : EReal)) (h1 : ∀ b i q, x1 (ix3 b i q) = ((r1 b i q : ℝ) : EReal))
    (h2 : ∀ b i q, x2 (ix3 b i q) = ((r2 b i q : ℝ) : EReal)) (h3 : ∀ b i q, x3 (ix3 b i q) = ((r3 b i q : ℝ) : EReal))
    (h4 : ∀ b i q, x4 (ix3 b i q) = ((r4 b i q : ℝ) : EReal))
    (hw : ∀ (k : Fin 5) (q : Fin 66) o, W (ix2 (⟨k.val * 66 + q.val, by omega⟩ : Fin 330) o) = ((wr k q o : ℝ) : EReal))
    (b : Fin 64) (i : Fin 325) (o : Fin 64) :
    mix66_64 W bias x0 x1 x2 x3 x4 (ix3 b i o)
      = bias (ix1 o) + (((∑ q, r0 b i q * wr 0 q o) + (∑ q, r1 b i q * wr 1 q o) + (∑ q, r2 b i q * wr 2 q o)
        + (∑ q, r3 b i q * wr 3 q o) + (∑ q, r4 b i q * wr 4 q o) : ℝ) : EReal) := by
  have c0 : ∀ q : Fin 66, concatenate S64x325x330 2 [⟨S64x325x66, (x0 : FVec Ideal S64x325x66 .f32)⟩, ⟨S64x325x66, (x1 : FVec Ideal S64x325x66 .f32)⟩, ⟨S64x325x66, (x2 : FVec Ideal S64x325x66 .f32)⟩, ⟨S64x325x66, (x3 : FVec Ideal S64x325x66 .f32)⟩, ⟨S64x325x66, (x4 : FVec Ideal S64x325x66 .f32)⟩]
      concatenates_S64x325x66_S64x325x66_S64x325x66_S64x325x66_S64x325x66_S64x325x330_d2 (ix3 b i (⟨0 * 66 + q.val, by omega⟩ : Fin 330)) = ((r0 b i q : ℝ) : EReal) := by
    intro q
    pointwise
    first
    | exact h0 b i q
    | split_ifs <;> first
      | (exfalso; omega)
      | exact (congrArg (fun z => x0 (ix3 b i z)) (Fin.ext (by dsimp only; omega))).trans (h0 b i q)
  have c1 : ∀ q : Fin 66, concatenate S64x325x330 2 [⟨S64x325x66, (x0 : FVec Ideal S64x325x66 .f32)⟩, ⟨S64x325x66, (x1 : FVec Ideal S64x325x66 .f32)⟩, ⟨S64x325x66, (x2 : FVec Ideal S64x325x66 .f32)⟩, ⟨S64x325x66, (x3 : FVec Ideal S64x325x66 .f32)⟩, ⟨S64x325x66, (x4 : FVec Ideal S64x325x66 .f32)⟩]
      concatenates_S64x325x66_S64x325x66_S64x325x66_S64x325x66_S64x325x66_S64x325x330_d2 (ix3 b i (⟨1 * 66 + q.val, by omega⟩ : Fin 330)) = ((r1 b i q : ℝ) : EReal) := by
    intro q
    pointwise
    first
    | exact h1 b i q
    | split_ifs <;> first
      | (exfalso; omega)
      | exact (congrArg (fun z => x1 (ix3 b i z)) (Fin.ext (by dsimp only; omega))).trans (h1 b i q)
  have c2 : ∀ q : Fin 66, concatenate S64x325x330 2 [⟨S64x325x66, (x0 : FVec Ideal S64x325x66 .f32)⟩, ⟨S64x325x66, (x1 : FVec Ideal S64x325x66 .f32)⟩, ⟨S64x325x66, (x2 : FVec Ideal S64x325x66 .f32)⟩, ⟨S64x325x66, (x3 : FVec Ideal S64x325x66 .f32)⟩, ⟨S64x325x66, (x4 : FVec Ideal S64x325x66 .f32)⟩]
      concatenates_S64x325x66_S64x325x66_S64x325x66_S64x325x66_S64x325x66_S64x325x330_d2 (ix3 b i (⟨2 * 66 + q.val, by omega⟩ : Fin 330)) = ((r2 b i q : ℝ) : EReal) := by
    intro q
    pointwise
    first
    | exact h2 b i q
    | split_ifs <;> first
      | (exfalso; omega)
      | exact (congrArg (fun z => x2 (ix3 b i z)) (Fin.ext (by dsimp only; omega))).trans (h2 b i q)
  have c3 : ∀ q : Fin 66, concatenate S64x325x330 2 [⟨S64x325x66, (x0 : FVec Ideal S64x325x66 .f32)⟩, ⟨S64x325x66, (x1 : FVec Ideal S64x325x66 .f32)⟩, ⟨S64x325x66, (x2 : FVec Ideal S64x325x66 .f32)⟩, ⟨S64x325x66, (x3 : FVec Ideal S64x325x66 .f32)⟩, ⟨S64x325x66, (x4 : FVec Ideal S64x325x66 .f32)⟩]
      concatenates_S64x325x66_S64x325x66_S64x325x66_S64x325x66_S64x325x66_S64x325x330_d2 (ix3 b i (⟨3 * 66 + q.val, by omega⟩ : Fin 330)) = ((r3 b i q : ℝ) : EReal) := by
    intro q
    pointwise
    first
    | exact h3 b i q
    | split_ifs <;> first
      | (exfalso; omega)
      | exact (congrArg (fun z => x3 (ix3 b i z)) (Fin.ext (by dsimp only; omega))).trans (h3 b i q)
  have c4 : ∀ q : Fin 66, concatenate S64x325x330 2 [⟨S64x325x66, (x0 : FVec Ideal S64x325x66 .f32)⟩, ⟨S64x325x66, (x1 : FVec Ideal S64x325x66 .f32)⟩, ⟨S64x325x66, (x2 : FVec Ideal S64x325x66 .f32)⟩, ⟨S64x325x66, (x3 : FVec Ideal S64x325x66 .f32)⟩, ⟨S64x325x66, (x4 : FVec Ideal S64x325x66 .f32)⟩]
      concatenates_S64x325x66_S64x325x66_S64x325x66_S64x325x66_S64x325x66_S64x325x330_d2 (ix3 b i (⟨4 * 66 + q.val, by omega⟩ : Fin 330)) = ((r4 b i q : ℝ) : EReal) := by
    intro q
    pointwise
    first
    | exact h4 b i q
    | split_ifs <;> first
      | (exfalso; omega)
      | exact (congrArg (fun z => x4 (ix3 b i z)) (Fin.ext (by dsimp only; omega))).trans (h4 b i q)
  unfold mix66_64
  generalize concatenate S64x325x330 2 [⟨S64x325x66, (x0 : FVec Ideal S64x325x66 .f32)⟩, ⟨S64x325x66, (x1 : FVec Ideal S64x325x66 .f32)⟩, ⟨S64x325x66, (x2 : FVec Ideal S64x325x66 .f32)⟩, ⟨S64x325x66, (x3 : FVec Ideal S64x325x66 .f32)⟩, ⟨S64x325x66, (x4 : FVec Ideal S64x325x66 .f32)⟩]
      concatenates_S64x325x66_S64x325x66_S64x325x66_S64x325x66_S64x325x66_S64x325x330_d2 = X at c0 c1 c2 c3 c4 ⊢
  pointwise
  rw [sum_five (w := 66) (by rfl), Fin.sum_univ_five]
  have hw0 := fun q => hw 0 q o
  have hw1 := fun q => hw 1 q o
  have hw2 := fun q => hw 2 q o
  have hw3 := fun q => hw 3 q o
  have hw4 := fun q => hw 4 q o
  simp only [Fin.isValue, Fin.val_zero, Fin.val_one, Fin.val_two, show ((3 : Fin 5).val) = 3 from rfl, show ((4 : Fin 5).val) = 4 from rfl]
    at hw0 hw1 hw2 hw3 hw4 ⊢
  simp only [c0, c1, c2, c3, c4, hw0, hw1, hw2, hw3, hw4, ← EReal.coe_mul, ← coe_sum, ← EReal.coe_add]
  rw [add_comm]

/-- The cell on an input of 2 channels. -/
def cell66 (A0 A1 : FVec Ideal S325x325 .f32) (Wg : FVec Ideal S330x128 .f32) (bg : FVec Ideal S128 .f32) (Wc : FVec Ideal S330x64 .f32)
    (bc : FVec Ideal S64 .f32) (x : FVec Ideal S64x325x2 .f32) (h : FVec Ideal S64x325x64 .f32) : FVec Ideal S64x325x64 .f32 :=
  let y : FVec Ideal S64x325x66 .f32 := concatenate S64x325x66 2 [⟨S64x325x2, x⟩, ⟨S64x325x64, h⟩] concatenates_S64x325x2_S64x325x64_S64x325x66_d2
  let g : FVec Ideal S64x325x128 .f32 := sigm (mix66_128 Wg bg y (prop66 A0 y) (cheb66 A0 y) (prop66 A1 y) (cheb66 A1 y))
  let r : FVec Ideal S64x325x64 .f32 := extractStridedSlice S64x325x64 ![0, 0, 0] g slices_S64x325x128_S64x325x64_0_0_0
  let u : FVec Ideal S64x325x64 .f32 := extractStridedSlice S64x325x64 ![0, 0, 64] g slices_S64x325x128_S64x325x64_0_0_64
  let z : FVec Ideal S64x325x66 .f32 := concatenate S64x325x66 2 [⟨S64x325x2, x⟩, ⟨S64x325x64, mulf r h⟩] concatenates_S64x325x2_S64x325x64_S64x325x66_d2
  let c : FVec Ideal S64x325x64 .f32 := Host.tanh (mix66_64 Wc bc z (prop66 A0 z) (cheb66 A0 z) (prop66 A1 z) (cheb66 A1 z))
  addf (mulf u h) (mulf (subf (broadcastInDim S64x325x64 ![] bcast_S_S64x325x64 (constant S_ .f32 0x3F800000#32)) u) c)

/-- The cell read at an index. -/
theorem cell66_at (A0 A1 : FVec Ideal S325x325 .f32) (Wg : FVec Ideal S330x128 .f32) (bg : FVec Ideal S128 .f32) (Wc : FVec Ideal S330x64 .f32)
    (bc : FVec Ideal S64 .f32) (x : FVec Ideal S64x325x2 .f32) (h : FVec Ideal S64x325x64 .f32) (a0 a1 : Fin 325 → Fin 325 → ℝ)
    (C : Cell 66) (xr : Fin 64 → Fin 325 → Fin 2 → ℝ) (hr : Fin 64 → Fin 325 → Fin 64 → ℝ)
    (hA0 : ∀ i j, A0 (ix2 i j) = ((a0 i j : ℝ) : EReal)) (hA1 : ∀ i j, A1 (ix2 i j) = ((a1 i j : ℝ) : EReal))
    (hx : ∀ b i q, x (ix3 b i q) = ((xr b i q : ℝ) : EReal)) (hh : ∀ b i q, h (ix3 b i q) = ((hr b i q : ℝ) : EReal))
    (hbg : ∀ o, bg (ix1 o) = C.bg o) (hbc : ∀ o, bc (ix1 o) = C.bc o)
    (hwg : ∀ (k : Fin 5) (q : Fin 66) o, Wg (ix2 (⟨k.val * 66 + q.val, by omega⟩ : Fin 330) o) = ((C.Wg k q o : ℝ) : EReal))
    (hwc : ∀ (k : Fin 5) (q : Fin 66) o, Wc (ix2 (⟨k.val * 66 + q.val, by omega⟩ : Fin 330) o) = ((C.Wc k q o : ℝ) : EReal))
    (b : Fin 64) (i : Fin 325) (o : Fin 64) :
    cell66 A0 A1 Wg bg Wc bc x h (ix3 b i o) = ((gru a0 a1 C (xr b) (hr b) i o : ℝ) : EReal) := by
  have hcat : ∀ (y : FVec Ideal S64x325x64 .f32) (yr : Fin 64 → Fin 325 → Fin 64 → ℝ)
      (hy : ∀ b i q, y (ix3 b i q) = ((yr b i q : ℝ) : EReal)) (b : Fin 64) (i : Fin 325) (q : Fin 66),
      concatenate S64x325x66 2 [⟨S64x325x2, x⟩, ⟨S64x325x64, y⟩] concatenates_S64x325x2_S64x325x64_S64x325x66_d2 (ix3 b i q)
        = ((cat 66 (xr b) (yr b) i q : ℝ) : EReal) := by
    intro y yr hy b i q
    pointwise
    unfold cat
    by_cases hq : q.val < 2
    · rw [dif_pos hq, dif_pos hq, hx]
    · rw [dif_neg hq, dif_neg hq, dif_pos (by omega), hy]
  unfold cell66
  have hY := hcat h hr hh
  generalize concatenate S64x325x66 2 [⟨S64x325x2, x⟩, ⟨S64x325x64, h⟩] concatenates_S64x325x2_S64x325x64_S64x325x66_d2 = y at hY ⊢
  have hg : ∀ b i (o : Fin 128), sigm (mix66_128 Wg bg y (prop66 A0 y) (cheb66 A0 y) (prop66 A1 y) (cheb66 A1 y)) (ix3 b i o)
      = ((gates a0 a1 C (xr b) (hr b) i o : ℝ) : EReal) := by
    intro b i o
    rw [sigm_at, mix66_128_at Wg bg _ _ _ _ _ _ _ _ _ _ C.Wg hY (prop66_at A0 y a0 _ hA0 hY) (cheb66_at A0 y a0 _ hA0 hY)
      (prop66_at A1 y a1 _ hA1 hY) (cheb66_at A1 y a1 _ hA1 hY) hwg b i o, hbg, coe_sg]
    rfl
  generalize sigm (mix66_128 Wg bg y (prop66 A0 y) (cheb66 A0 y) (prop66 A1 y) (cheb66 A1 y)) = G at hg ⊢
  have hr' : ∀ b i (q : Fin 64), mulf (extractStridedSlice S64x325x64 ![0, 0, 0] G slices_S64x325x128_S64x325x64_0_0_0) h (ix3 b i q)
      = ((reset a0 a1 C (xr b) (hr b) i q : ℝ) : EReal) := by
    intro b i q
    pointwise
    rw [hh, hg, ← EReal.coe_mul]; rfl
  have hZ := hcat _ (fun b => reset a0 a1 C (xr b) (hr b)) hr'
  generalize concatenate S64x325x66 2 [⟨S64x325x2, x⟩, ⟨S64x325x64, mulf (extractStridedSlice S64x325x64 ![0, 0, 0] G slices_S64x325x128_S64x325x64_0_0_0) h⟩] concatenates_S64x325x2_S64x325x64_S64x325x66_d2 = z at hZ ⊢
  have hc : ∀ b i (o : Fin 64), Host.tanh (mix66_64 Wc bc z (prop66 A0 z) (cheb66 A0 z) (prop66 A1 z) (cheb66 A1 z)) (ix3 b i o)
      = ((cand a0 a1 C (xr b) (hr b) i o : ℝ) : EReal) := by
    intro b i o
    refine (congrArg Ideal.tanh (mix66_64_at Wc bc _ _ _ _ _ _ _ _ _ _ C.Wc hZ (prop66_at A0 z a0 _ hA0 hZ) (cheb66_at A0 z a0 _ hA0 hZ)
      (prop66_at A1 z a1 _ hA1 hZ) (cheb66_at A1 z a1 _ hA1 hZ) hwc b i o)).trans ?_
    rw [hbc, coe_th]; rfl
  generalize Host.tanh (mix66_64 Wc bc z (prop66 A0 z) (cheb66 A0 z) (prop66 A1 z) (cheb66 A1 z)) = D at hc ⊢
  pointwise
  rw [hg, hh, hc, ← EReal.coe_one, ← EReal.coe_sub, ← EReal.coe_mul, ← EReal.coe_mul, ← EReal.coe_add]
  rfl

/-- A support applied to a signal of 128 channels. -/
def prop128 (A : FVec Ideal S325x325 .f32) (x : FVec Ideal S64x325x128 .f32) : FVec Ideal S64x325x128 .f32 :=
  transpose S64x325x128 [0, 2, 1] (Host.dotGeneral (φ₁ := .f32) (φ₂ := .f32) dot_S64x325x128_S325x325_S64x128x325_1_1_02_0_n_n none x A : FVec Ideal S64x128x325 .f32)
    transposes_S64x128x325_S64x325x128_0_2_1

/-- Its second Chebyshev term. -/
def cheb128 (A : FVec Ideal S325x325 .f32) (x : FVec Ideal S64x325x128 .f32) : FVec Ideal S64x325x128 .f32 :=
  subf (mulf (broadcastInDim S64x325x128 ![] bcast_S_S64x325x128 (constant S_ .f32 0x40000000#32)) (prop128 A (prop128 A x))) x

theorem prop128_at (A : FVec Ideal S325x325 .f32) (x : FVec Ideal S64x325x128 .f32) (a : Fin 325 → Fin 325 → ℝ)
    (xr : Fin 64 → Fin 325 → Fin 128 → ℝ) (hA : ∀ i j, A (ix2 i j) = ((a i j : ℝ) : EReal))
    (hx : ∀ b i q, x (ix3 b i q) = ((xr b i q : ℝ) : EReal)) (b : Fin 64) (i : Fin 325) (q : Fin 128) :
    prop128 A x (ix3 b i q) = ((prop a (xr b) i q : ℝ) : EReal) := by
  pointwise [prop128]
  simp only [hA, hx, ← EReal.coe_mul, ← coe_sum, prop]
  refine congrArg _ (Finset.sum_congr rfl fun m _ => mul_comm _ _)

theorem cheb128_at (A : FVec Ideal S325x325 .f32) (x : FVec Ideal S64x325x128 .f32) (a : Fin 325 → Fin 325 → ℝ)
    (xr : Fin 64 → Fin 325 → Fin 128 → ℝ) (hA : ∀ i j, A (ix2 i j) = ((a i j : ℝ) : EReal))
    (hx : ∀ b i q, x (ix3 b i q) = ((xr b i q : ℝ) : EReal)) (b : Fin 64) (i : Fin 325) (q : Fin 128) :
    cheb128 A x (ix3 b i q) = ((cheb a (xr b) i q : ℝ) : EReal) := by
  have h2 := prop128_at A (prop128 A x) a (fun b => prop a (xr b)) hA (prop128_at A x a xr hA hx) b i q
  unfold cheb128
  generalize prop128 A (prop128 A x) = y at h2 ⊢
  pointwise
  rw [two, h2, hx, ← EReal.coe_mul, ← EReal.coe_sub]
  rfl

/-- The convolution's contraction with the weights (128 channels to 128), of the signal's five forms. -/
def mix128_128 (W : FVec Ideal S640x128 .f32) (bias : FVec Ideal S128 .f32) (x0 x1 x2 x3 x4 : FVec Ideal S64x325x128 .f32) :
    FVec Ideal S64x325x128 .f32 :=
  addf (Host.dotGeneral (φ₁ := .f32) (φ₂ := .f32) dot_S64x325x640_S640x128_S64x325x128_2_0_01_1_n_n none
      (concatenate S64x325x640 2 [⟨S64x325x128, (x0 : FVec Ideal S64x325x128 .f32)⟩, ⟨S64x325x128, (x1 : FVec Ideal S64x325x128 .f32)⟩, ⟨S64x325x128, (x2 : FVec Ideal S64x325x128 .f32)⟩, ⟨S64x325x128, (x3 : FVec Ideal S64x325x128 .f32)⟩, ⟨S64x325x128, (x4 : FVec Ideal S64x325x128 .f32)⟩]
        concatenates_S64x325x128_S64x325x128_S64x325x128_S64x325x128_S64x325x128_S64x325x640_d2 : FVec Ideal S64x325x640 .f32) W)
    (broadcastInDim S64x325x128 ![0, 1, 2] bcast_S1x1x128_S64x325x128_0_1_2 (broadcastInDim S1x1x128 ![2] bcast_S128_S1x1x128_2 bias))

theorem mix128_128_at (W : FVec Ideal S640x128 .f32) (bias : FVec Ideal S128 .f32) (x0 x1 x2 x3 x4 : FVec Ideal S64x325x128 .f32)
    (r0 r1 r2 r3 r4 : Fin 64 → Fin 325 → Fin 128 → ℝ) (wr : Fin 5 → Fin 128 → Fin 128 → ℝ)
    (h0 : ∀ b i q, x0 (ix3 b i q) = ((r0 b i q : ℝ) : EReal)) (h1 : ∀ b i q, x1 (ix3 b i q) = ((r1 b i q : ℝ) : EReal))
    (h2 : ∀ b i q, x2 (ix3 b i q) = ((r2 b i q : ℝ) : EReal)) (h3 : ∀ b i q, x3 (ix3 b i q) = ((r3 b i q : ℝ) : EReal))
    (h4 : ∀ b i q, x4 (ix3 b i q) = ((r4 b i q : ℝ) : EReal))
    (hw : ∀ (k : Fin 5) (q : Fin 128) o, W (ix2 (⟨k.val * 128 + q.val, by omega⟩ : Fin 640) o) = ((wr k q o : ℝ) : EReal))
    (b : Fin 64) (i : Fin 325) (o : Fin 128) :
    mix128_128 W bias x0 x1 x2 x3 x4 (ix3 b i o)
      = bias (ix1 o) + (((∑ q, r0 b i q * wr 0 q o) + (∑ q, r1 b i q * wr 1 q o) + (∑ q, r2 b i q * wr 2 q o)
        + (∑ q, r3 b i q * wr 3 q o) + (∑ q, r4 b i q * wr 4 q o) : ℝ) : EReal) := by
  have c0 : ∀ q : Fin 128, concatenate S64x325x640 2 [⟨S64x325x128, (x0 : FVec Ideal S64x325x128 .f32)⟩, ⟨S64x325x128, (x1 : FVec Ideal S64x325x128 .f32)⟩, ⟨S64x325x128, (x2 : FVec Ideal S64x325x128 .f32)⟩, ⟨S64x325x128, (x3 : FVec Ideal S64x325x128 .f32)⟩, ⟨S64x325x128, (x4 : FVec Ideal S64x325x128 .f32)⟩]
      concatenates_S64x325x128_S64x325x128_S64x325x128_S64x325x128_S64x325x128_S64x325x640_d2 (ix3 b i (⟨0 * 128 + q.val, by omega⟩ : Fin 640)) = ((r0 b i q : ℝ) : EReal) := by
    intro q
    pointwise
    first
    | exact h0 b i q
    | split_ifs <;> first
      | (exfalso; omega)
      | exact (congrArg (fun z => x0 (ix3 b i z)) (Fin.ext (by dsimp only; omega))).trans (h0 b i q)
  have c1 : ∀ q : Fin 128, concatenate S64x325x640 2 [⟨S64x325x128, (x0 : FVec Ideal S64x325x128 .f32)⟩, ⟨S64x325x128, (x1 : FVec Ideal S64x325x128 .f32)⟩, ⟨S64x325x128, (x2 : FVec Ideal S64x325x128 .f32)⟩, ⟨S64x325x128, (x3 : FVec Ideal S64x325x128 .f32)⟩, ⟨S64x325x128, (x4 : FVec Ideal S64x325x128 .f32)⟩]
      concatenates_S64x325x128_S64x325x128_S64x325x128_S64x325x128_S64x325x128_S64x325x640_d2 (ix3 b i (⟨1 * 128 + q.val, by omega⟩ : Fin 640)) = ((r1 b i q : ℝ) : EReal) := by
    intro q
    pointwise
    first
    | exact h1 b i q
    | split_ifs <;> first
      | (exfalso; omega)
      | exact (congrArg (fun z => x1 (ix3 b i z)) (Fin.ext (by dsimp only; omega))).trans (h1 b i q)
  have c2 : ∀ q : Fin 128, concatenate S64x325x640 2 [⟨S64x325x128, (x0 : FVec Ideal S64x325x128 .f32)⟩, ⟨S64x325x128, (x1 : FVec Ideal S64x325x128 .f32)⟩, ⟨S64x325x128, (x2 : FVec Ideal S64x325x128 .f32)⟩, ⟨S64x325x128, (x3 : FVec Ideal S64x325x128 .f32)⟩, ⟨S64x325x128, (x4 : FVec Ideal S64x325x128 .f32)⟩]
      concatenates_S64x325x128_S64x325x128_S64x325x128_S64x325x128_S64x325x128_S64x325x640_d2 (ix3 b i (⟨2 * 128 + q.val, by omega⟩ : Fin 640)) = ((r2 b i q : ℝ) : EReal) := by
    intro q
    pointwise
    first
    | exact h2 b i q
    | split_ifs <;> first
      | (exfalso; omega)
      | exact (congrArg (fun z => x2 (ix3 b i z)) (Fin.ext (by dsimp only; omega))).trans (h2 b i q)
  have c3 : ∀ q : Fin 128, concatenate S64x325x640 2 [⟨S64x325x128, (x0 : FVec Ideal S64x325x128 .f32)⟩, ⟨S64x325x128, (x1 : FVec Ideal S64x325x128 .f32)⟩, ⟨S64x325x128, (x2 : FVec Ideal S64x325x128 .f32)⟩, ⟨S64x325x128, (x3 : FVec Ideal S64x325x128 .f32)⟩, ⟨S64x325x128, (x4 : FVec Ideal S64x325x128 .f32)⟩]
      concatenates_S64x325x128_S64x325x128_S64x325x128_S64x325x128_S64x325x128_S64x325x640_d2 (ix3 b i (⟨3 * 128 + q.val, by omega⟩ : Fin 640)) = ((r3 b i q : ℝ) : EReal) := by
    intro q
    pointwise
    first
    | exact h3 b i q
    | split_ifs <;> first
      | (exfalso; omega)
      | exact (congrArg (fun z => x3 (ix3 b i z)) (Fin.ext (by dsimp only; omega))).trans (h3 b i q)
  have c4 : ∀ q : Fin 128, concatenate S64x325x640 2 [⟨S64x325x128, (x0 : FVec Ideal S64x325x128 .f32)⟩, ⟨S64x325x128, (x1 : FVec Ideal S64x325x128 .f32)⟩, ⟨S64x325x128, (x2 : FVec Ideal S64x325x128 .f32)⟩, ⟨S64x325x128, (x3 : FVec Ideal S64x325x128 .f32)⟩, ⟨S64x325x128, (x4 : FVec Ideal S64x325x128 .f32)⟩]
      concatenates_S64x325x128_S64x325x128_S64x325x128_S64x325x128_S64x325x128_S64x325x640_d2 (ix3 b i (⟨4 * 128 + q.val, by omega⟩ : Fin 640)) = ((r4 b i q : ℝ) : EReal) := by
    intro q
    pointwise
    first
    | exact h4 b i q
    | split_ifs <;> first
      | (exfalso; omega)
      | exact (congrArg (fun z => x4 (ix3 b i z)) (Fin.ext (by dsimp only; omega))).trans (h4 b i q)
  unfold mix128_128
  generalize concatenate S64x325x640 2 [⟨S64x325x128, (x0 : FVec Ideal S64x325x128 .f32)⟩, ⟨S64x325x128, (x1 : FVec Ideal S64x325x128 .f32)⟩, ⟨S64x325x128, (x2 : FVec Ideal S64x325x128 .f32)⟩, ⟨S64x325x128, (x3 : FVec Ideal S64x325x128 .f32)⟩, ⟨S64x325x128, (x4 : FVec Ideal S64x325x128 .f32)⟩]
      concatenates_S64x325x128_S64x325x128_S64x325x128_S64x325x128_S64x325x128_S64x325x640_d2 = X at c0 c1 c2 c3 c4 ⊢
  pointwise
  rw [sum_five (w := 128) (by rfl), Fin.sum_univ_five]
  have hw0 := fun q => hw 0 q o
  have hw1 := fun q => hw 1 q o
  have hw2 := fun q => hw 2 q o
  have hw3 := fun q => hw 3 q o
  have hw4 := fun q => hw 4 q o
  simp only [Fin.isValue, Fin.val_zero, Fin.val_one, Fin.val_two, show ((3 : Fin 5).val) = 3 from rfl, show ((4 : Fin 5).val) = 4 from rfl]
    at hw0 hw1 hw2 hw3 hw4 ⊢
  simp only [c0, c1, c2, c3, c4, hw0, hw1, hw2, hw3, hw4, ← EReal.coe_mul, ← coe_sum, ← EReal.coe_add]
  rw [add_comm]

/-- The convolution's contraction with the weights (128 channels to 64), of the signal's five forms. -/
def mix128_64 (W : FVec Ideal S640x64 .f32) (bias : FVec Ideal S64 .f32) (x0 x1 x2 x3 x4 : FVec Ideal S64x325x128 .f32) :
    FVec Ideal S64x325x64 .f32 :=
  addf (Host.dotGeneral (φ₁ := .f32) (φ₂ := .f32) dot_S64x325x640_S640x64_S64x325x64_2_0_01_1_n_n none
      (concatenate S64x325x640 2 [⟨S64x325x128, (x0 : FVec Ideal S64x325x128 .f32)⟩, ⟨S64x325x128, (x1 : FVec Ideal S64x325x128 .f32)⟩, ⟨S64x325x128, (x2 : FVec Ideal S64x325x128 .f32)⟩, ⟨S64x325x128, (x3 : FVec Ideal S64x325x128 .f32)⟩, ⟨S64x325x128, (x4 : FVec Ideal S64x325x128 .f32)⟩]
        concatenates_S64x325x128_S64x325x128_S64x325x128_S64x325x128_S64x325x128_S64x325x640_d2 : FVec Ideal S64x325x640 .f32) W)
    (broadcastInDim S64x325x64 ![0, 1, 2] bcast_S1x1x64_S64x325x64_0_1_2 (broadcastInDim S1x1x64 ![2] bcast_S64_S1x1x64_2 bias))

theorem mix128_64_at (W : FVec Ideal S640x64 .f32) (bias : FVec Ideal S64 .f32) (x0 x1 x2 x3 x4 : FVec Ideal S64x325x128 .f32)
    (r0 r1 r2 r3 r4 : Fin 64 → Fin 325 → Fin 128 → ℝ) (wr : Fin 5 → Fin 128 → Fin 64 → ℝ)
    (h0 : ∀ b i q, x0 (ix3 b i q) = ((r0 b i q : ℝ) : EReal)) (h1 : ∀ b i q, x1 (ix3 b i q) = ((r1 b i q : ℝ) : EReal))
    (h2 : ∀ b i q, x2 (ix3 b i q) = ((r2 b i q : ℝ) : EReal)) (h3 : ∀ b i q, x3 (ix3 b i q) = ((r3 b i q : ℝ) : EReal))
    (h4 : ∀ b i q, x4 (ix3 b i q) = ((r4 b i q : ℝ) : EReal))
    (hw : ∀ (k : Fin 5) (q : Fin 128) o, W (ix2 (⟨k.val * 128 + q.val, by omega⟩ : Fin 640) o) = ((wr k q o : ℝ) : EReal))
    (b : Fin 64) (i : Fin 325) (o : Fin 64) :
    mix128_64 W bias x0 x1 x2 x3 x4 (ix3 b i o)
      = bias (ix1 o) + (((∑ q, r0 b i q * wr 0 q o) + (∑ q, r1 b i q * wr 1 q o) + (∑ q, r2 b i q * wr 2 q o)
        + (∑ q, r3 b i q * wr 3 q o) + (∑ q, r4 b i q * wr 4 q o) : ℝ) : EReal) := by
  have c0 : ∀ q : Fin 128, concatenate S64x325x640 2 [⟨S64x325x128, (x0 : FVec Ideal S64x325x128 .f32)⟩, ⟨S64x325x128, (x1 : FVec Ideal S64x325x128 .f32)⟩, ⟨S64x325x128, (x2 : FVec Ideal S64x325x128 .f32)⟩, ⟨S64x325x128, (x3 : FVec Ideal S64x325x128 .f32)⟩, ⟨S64x325x128, (x4 : FVec Ideal S64x325x128 .f32)⟩]
      concatenates_S64x325x128_S64x325x128_S64x325x128_S64x325x128_S64x325x128_S64x325x640_d2 (ix3 b i (⟨0 * 128 + q.val, by omega⟩ : Fin 640)) = ((r0 b i q : ℝ) : EReal) := by
    intro q
    pointwise
    first
    | exact h0 b i q
    | split_ifs <;> first
      | (exfalso; omega)
      | exact (congrArg (fun z => x0 (ix3 b i z)) (Fin.ext (by dsimp only; omega))).trans (h0 b i q)
  have c1 : ∀ q : Fin 128, concatenate S64x325x640 2 [⟨S64x325x128, (x0 : FVec Ideal S64x325x128 .f32)⟩, ⟨S64x325x128, (x1 : FVec Ideal S64x325x128 .f32)⟩, ⟨S64x325x128, (x2 : FVec Ideal S64x325x128 .f32)⟩, ⟨S64x325x128, (x3 : FVec Ideal S64x325x128 .f32)⟩, ⟨S64x325x128, (x4 : FVec Ideal S64x325x128 .f32)⟩]
      concatenates_S64x325x128_S64x325x128_S64x325x128_S64x325x128_S64x325x128_S64x325x640_d2 (ix3 b i (⟨1 * 128 + q.val, by omega⟩ : Fin 640)) = ((r1 b i q : ℝ) : EReal) := by
    intro q
    pointwise
    first
    | exact h1 b i q
    | split_ifs <;> first
      | (exfalso; omega)
      | exact (congrArg (fun z => x1 (ix3 b i z)) (Fin.ext (by dsimp only; omega))).trans (h1 b i q)
  have c2 : ∀ q : Fin 128, concatenate S64x325x640 2 [⟨S64x325x128, (x0 : FVec Ideal S64x325x128 .f32)⟩, ⟨S64x325x128, (x1 : FVec Ideal S64x325x128 .f32)⟩, ⟨S64x325x128, (x2 : FVec Ideal S64x325x128 .f32)⟩, ⟨S64x325x128, (x3 : FVec Ideal S64x325x128 .f32)⟩, ⟨S64x325x128, (x4 : FVec Ideal S64x325x128 .f32)⟩]
      concatenates_S64x325x128_S64x325x128_S64x325x128_S64x325x128_S64x325x128_S64x325x640_d2 (ix3 b i (⟨2 * 128 + q.val, by omega⟩ : Fin 640)) = ((r2 b i q : ℝ) : EReal) := by
    intro q
    pointwise
    first
    | exact h2 b i q
    | split_ifs <;> first
      | (exfalso; omega)
      | exact (congrArg (fun z => x2 (ix3 b i z)) (Fin.ext (by dsimp only; omega))).trans (h2 b i q)
  have c3 : ∀ q : Fin 128, concatenate S64x325x640 2 [⟨S64x325x128, (x0 : FVec Ideal S64x325x128 .f32)⟩, ⟨S64x325x128, (x1 : FVec Ideal S64x325x128 .f32)⟩, ⟨S64x325x128, (x2 : FVec Ideal S64x325x128 .f32)⟩, ⟨S64x325x128, (x3 : FVec Ideal S64x325x128 .f32)⟩, ⟨S64x325x128, (x4 : FVec Ideal S64x325x128 .f32)⟩]
      concatenates_S64x325x128_S64x325x128_S64x325x128_S64x325x128_S64x325x128_S64x325x640_d2 (ix3 b i (⟨3 * 128 + q.val, by omega⟩ : Fin 640)) = ((r3 b i q : ℝ) : EReal) := by
    intro q
    pointwise
    first
    | exact h3 b i q
    | split_ifs <;> first
      | (exfalso; omega)
      | exact (congrArg (fun z => x3 (ix3 b i z)) (Fin.ext (by dsimp only; omega))).trans (h3 b i q)
  have c4 : ∀ q : Fin 128, concatenate S64x325x640 2 [⟨S64x325x128, (x0 : FVec Ideal S64x325x128 .f32)⟩, ⟨S64x325x128, (x1 : FVec Ideal S64x325x128 .f32)⟩, ⟨S64x325x128, (x2 : FVec Ideal S64x325x128 .f32)⟩, ⟨S64x325x128, (x3 : FVec Ideal S64x325x128 .f32)⟩, ⟨S64x325x128, (x4 : FVec Ideal S64x325x128 .f32)⟩]
      concatenates_S64x325x128_S64x325x128_S64x325x128_S64x325x128_S64x325x128_S64x325x640_d2 (ix3 b i (⟨4 * 128 + q.val, by omega⟩ : Fin 640)) = ((r4 b i q : ℝ) : EReal) := by
    intro q
    pointwise
    first
    | exact h4 b i q
    | split_ifs <;> first
      | (exfalso; omega)
      | exact (congrArg (fun z => x4 (ix3 b i z)) (Fin.ext (by dsimp only; omega))).trans (h4 b i q)
  unfold mix128_64
  generalize concatenate S64x325x640 2 [⟨S64x325x128, (x0 : FVec Ideal S64x325x128 .f32)⟩, ⟨S64x325x128, (x1 : FVec Ideal S64x325x128 .f32)⟩, ⟨S64x325x128, (x2 : FVec Ideal S64x325x128 .f32)⟩, ⟨S64x325x128, (x3 : FVec Ideal S64x325x128 .f32)⟩, ⟨S64x325x128, (x4 : FVec Ideal S64x325x128 .f32)⟩]
      concatenates_S64x325x128_S64x325x128_S64x325x128_S64x325x128_S64x325x128_S64x325x640_d2 = X at c0 c1 c2 c3 c4 ⊢
  pointwise
  rw [sum_five (w := 128) (by rfl), Fin.sum_univ_five]
  have hw0 := fun q => hw 0 q o
  have hw1 := fun q => hw 1 q o
  have hw2 := fun q => hw 2 q o
  have hw3 := fun q => hw 3 q o
  have hw4 := fun q => hw 4 q o
  simp only [Fin.isValue, Fin.val_zero, Fin.val_one, Fin.val_two, show ((3 : Fin 5).val) = 3 from rfl, show ((4 : Fin 5).val) = 4 from rfl]
    at hw0 hw1 hw2 hw3 hw4 ⊢
  simp only [c0, c1, c2, c3, c4, hw0, hw1, hw2, hw3, hw4, ← EReal.coe_mul, ← coe_sum, ← EReal.coe_add]
  rw [add_comm]

/-- The cell on an input of 64 channels. -/
def cell128 (A0 A1 : FVec Ideal S325x325 .f32) (Wg : FVec Ideal S640x128 .f32) (bg : FVec Ideal S128 .f32) (Wc : FVec Ideal S640x64 .f32)
    (bc : FVec Ideal S64 .f32) (x : FVec Ideal S64x325x64 .f32) (h : FVec Ideal S64x325x64 .f32) : FVec Ideal S64x325x64 .f32 :=
  let y : FVec Ideal S64x325x128 .f32 := concatenate S64x325x128 2 [⟨S64x325x64, x⟩, ⟨S64x325x64, h⟩] concatenates_S64x325x64_S64x325x64_S64x325x128_d2
  let g : FVec Ideal S64x325x128 .f32 := sigm (mix128_128 Wg bg y (prop128 A0 y) (cheb128 A0 y) (prop128 A1 y) (cheb128 A1 y))
  let r : FVec Ideal S64x325x64 .f32 := extractStridedSlice S64x325x64 ![0, 0, 0] g slices_S64x325x128_S64x325x64_0_0_0
  let u : FVec Ideal S64x325x64 .f32 := extractStridedSlice S64x325x64 ![0, 0, 64] g slices_S64x325x128_S64x325x64_0_0_64
  let z : FVec Ideal S64x325x128 .f32 := concatenate S64x325x128 2 [⟨S64x325x64, x⟩, ⟨S64x325x64, mulf r h⟩] concatenates_S64x325x64_S64x325x64_S64x325x128_d2
  let c : FVec Ideal S64x325x64 .f32 := Host.tanh (mix128_64 Wc bc z (prop128 A0 z) (cheb128 A0 z) (prop128 A1 z) (cheb128 A1 z))
  addf (mulf u h) (mulf (subf (broadcastInDim S64x325x64 ![] bcast_S_S64x325x64 (constant S_ .f32 0x3F800000#32)) u) c)

/-- The cell read at an index. -/
theorem cell128_at (A0 A1 : FVec Ideal S325x325 .f32) (Wg : FVec Ideal S640x128 .f32) (bg : FVec Ideal S128 .f32) (Wc : FVec Ideal S640x64 .f32)
    (bc : FVec Ideal S64 .f32) (x : FVec Ideal S64x325x64 .f32) (h : FVec Ideal S64x325x64 .f32) (a0 a1 : Fin 325 → Fin 325 → ℝ)
    (C : Cell 128) (xr : Fin 64 → Fin 325 → Fin 64 → ℝ) (hr : Fin 64 → Fin 325 → Fin 64 → ℝ)
    (hA0 : ∀ i j, A0 (ix2 i j) = ((a0 i j : ℝ) : EReal)) (hA1 : ∀ i j, A1 (ix2 i j) = ((a1 i j : ℝ) : EReal))
    (hx : ∀ b i q, x (ix3 b i q) = ((xr b i q : ℝ) : EReal)) (hh : ∀ b i q, h (ix3 b i q) = ((hr b i q : ℝ) : EReal))
    (hbg : ∀ o, bg (ix1 o) = C.bg o) (hbc : ∀ o, bc (ix1 o) = C.bc o)
    (hwg : ∀ (k : Fin 5) (q : Fin 128) o, Wg (ix2 (⟨k.val * 128 + q.val, by omega⟩ : Fin 640) o) = ((C.Wg k q o : ℝ) : EReal))
    (hwc : ∀ (k : Fin 5) (q : Fin 128) o, Wc (ix2 (⟨k.val * 128 + q.val, by omega⟩ : Fin 640) o) = ((C.Wc k q o : ℝ) : EReal))
    (b : Fin 64) (i : Fin 325) (o : Fin 64) :
    cell128 A0 A1 Wg bg Wc bc x h (ix3 b i o) = ((gru a0 a1 C (xr b) (hr b) i o : ℝ) : EReal) := by
  have hcat : ∀ (y : FVec Ideal S64x325x64 .f32) (yr : Fin 64 → Fin 325 → Fin 64 → ℝ)
      (hy : ∀ b i q, y (ix3 b i q) = ((yr b i q : ℝ) : EReal)) (b : Fin 64) (i : Fin 325) (q : Fin 128),
      concatenate S64x325x128 2 [⟨S64x325x64, x⟩, ⟨S64x325x64, y⟩] concatenates_S64x325x64_S64x325x64_S64x325x128_d2 (ix3 b i q)
        = ((cat 128 (xr b) (yr b) i q : ℝ) : EReal) := by
    intro y yr hy b i q
    pointwise
    unfold cat
    by_cases hq : q.val < 64
    · rw [dif_pos hq, dif_pos hq, hx]
    · rw [dif_neg hq, dif_neg hq, dif_pos (by omega), hy]
  unfold cell128
  have hY := hcat h hr hh
  generalize concatenate S64x325x128 2 [⟨S64x325x64, x⟩, ⟨S64x325x64, h⟩] concatenates_S64x325x64_S64x325x64_S64x325x128_d2 = y at hY ⊢
  have hg : ∀ b i (o : Fin 128), sigm (mix128_128 Wg bg y (prop128 A0 y) (cheb128 A0 y) (prop128 A1 y) (cheb128 A1 y)) (ix3 b i o)
      = ((gates a0 a1 C (xr b) (hr b) i o : ℝ) : EReal) := by
    intro b i o
    rw [sigm_at, mix128_128_at Wg bg _ _ _ _ _ _ _ _ _ _ C.Wg hY (prop128_at A0 y a0 _ hA0 hY) (cheb128_at A0 y a0 _ hA0 hY)
      (prop128_at A1 y a1 _ hA1 hY) (cheb128_at A1 y a1 _ hA1 hY) hwg b i o, hbg, coe_sg]
    rfl
  generalize sigm (mix128_128 Wg bg y (prop128 A0 y) (cheb128 A0 y) (prop128 A1 y) (cheb128 A1 y)) = G at hg ⊢
  have hr' : ∀ b i (q : Fin 64), mulf (extractStridedSlice S64x325x64 ![0, 0, 0] G slices_S64x325x128_S64x325x64_0_0_0) h (ix3 b i q)
      = ((reset a0 a1 C (xr b) (hr b) i q : ℝ) : EReal) := by
    intro b i q
    pointwise
    rw [hh, hg, ← EReal.coe_mul]; rfl
  have hZ := hcat _ (fun b => reset a0 a1 C (xr b) (hr b)) hr'
  generalize concatenate S64x325x128 2 [⟨S64x325x64, x⟩, ⟨S64x325x64, mulf (extractStridedSlice S64x325x64 ![0, 0, 0] G slices_S64x325x128_S64x325x64_0_0_0) h⟩] concatenates_S64x325x64_S64x325x64_S64x325x128_d2 = z at hZ ⊢
  have hc : ∀ b i (o : Fin 64), Host.tanh (mix128_64 Wc bc z (prop128 A0 z) (cheb128 A0 z) (prop128 A1 z) (cheb128 A1 z)) (ix3 b i o)
      = ((cand a0 a1 C (xr b) (hr b) i o : ℝ) : EReal) := by
    intro b i o
    refine (congrArg Ideal.tanh (mix128_64_at Wc bc _ _ _ _ _ _ _ _ _ _ C.Wc hZ (prop128_at A0 z a0 _ hA0 hZ) (cheb128_at A0 z a0 _ hA0 hZ)
      (prop128_at A1 z a1 _ hA1 hZ) (cheb128_at A1 z a1 _ hA1 hZ) hwc b i o)).trans ?_
    rw [hbc, coe_th]; rfl
  generalize Host.tanh (mix128_64 Wc bc z (prop128 A0 z) (cheb128 A0 z) (prop128 A1 z) (cheb128 A1 z)) = D at hc ⊢
  pointwise
  rw [hg, hh, hc, ← EReal.coe_one, ← EReal.coe_sub, ← EReal.coe_mul, ← EReal.coe_mul, ← EReal.coe_add]
  rfl

section
variable (j : ℕ) (s : Step.State Ideal)

theorem b31_eq : Step.b31 j s = sigm (mix66_128 s.main_v7_2 s.main_v7_3 (Step.b2 j s) (prop66 s.main_v7_0 (Step.b2 j s)) (cheb66 s.main_v7_0 (Step.b2 j s)) (prop66 s.main_v7_1 (Step.b2 j s)) (cheb66 s.main_v7_1 (Step.b2 j s))) := by
  have e1 : Step.b4 j s = prop66 s.main_v7_0 (Step.b2 j s) := rfl
  have e2 : Step.b10 j s = cheb66 s.main_v7_0 (Step.b2 j s) := rfl
  have e3 : Step.b12 j s = prop66 s.main_v7_1 (Step.b2 j s) := rfl
  have e4 : Step.b18 j s = cheb66 s.main_v7_1 (Step.b2 j s) := rfl
  have e : Step.b31 j s = sigm (mix66_128 s.main_v7_2 s.main_v7_3 (Step.b2 j s) (Step.b4 j s) (Step.b10 j s) (Step.b12 j s) (Step.b18 j s)) := rfl
  rw [e, e1, e2, e3, e4]

theorem b57_eq : Step.b57 j s = Host.tanh (mix66_64 s.main_v7_4 s.main_v7_5 (Step.b35 j s) (prop66 s.main_v7_0 (Step.b35 j s)) (cheb66 s.main_v7_0 (Step.b35 j s)) (prop66 s.main_v7_1 (Step.b35 j s)) (cheb66 s.main_v7_1 (Step.b35 j s))) := by
  have e1 : Step.b37 j s = prop66 s.main_v7_0 (Step.b35 j s) := rfl
  have e2 : Step.b43 j s = cheb66 s.main_v7_0 (Step.b35 j s) := rfl
  have e3 : Step.b45 j s = prop66 s.main_v7_1 (Step.b35 j s) := rfl
  have e4 : Step.b51 j s = cheb66 s.main_v7_1 (Step.b35 j s) := rfl
  have e : Step.b57 j s = Host.tanh (mix66_64 s.main_v7_4 s.main_v7_5 (Step.b35 j s) (Step.b37 j s) (Step.b43 j s) (Step.b45 j s) (Step.b51 j s)) := rfl
  rw [e, e1, e2, e3, e4]

/-- The layer's new state is its cell. -/
theorem b63_eq : Step.b63 j s = cell66 s.main_v7_0 s.main_v7_1 s.main_v7_2 s.main_v7_3 s.main_v7_4 s.main_v7_5 s.main_v7_15 s.main_v7_16 := by
  unfold cell66
  have eg := b31_eq j s
  have ec := b57_eq j s
  have ey : Step.b2 j s = concatenate S64x325x66 2 [⟨S64x325x2, s.main_v7_15⟩, ⟨S64x325x64, s.main_v7_16⟩] concatenates_S64x325x2_S64x325x64_S64x325x66_d2 := rfl
  have ez : Step.b35 j s = concatenate S64x325x66 2 [⟨S64x325x2, s.main_v7_15⟩, ⟨S64x325x64,
      mulf (extractStridedSlice S64x325x64 ![0, 0, 0] (Step.b31 j s) slices_S64x325x128_S64x325x64_0_0_0) s.main_v7_16⟩]
        concatenates_S64x325x2_S64x325x64_S64x325x66_d2 := rfl
  rw [ey] at eg
  rw [ez] at ec
  dsimp only
  rw [← eg, ← ec]
  rfl

theorem b93_eq : Step.b93 j s = sigm (mix128_128 s.main_v7_6 s.main_v7_7 (Step.b64 j s) (prop128 s.main_v7_0 (Step.b64 j s)) (cheb128 s.main_v7_0 (Step.b64 j s)) (prop128 s.main_v7_1 (Step.b64 j s)) (cheb128 s.main_v7_1 (Step.b64 j s))) := by
  have e1 : Step.b66 j s = prop128 s.main_v7_0 (Step.b64 j s) := rfl
  have e2 : Step.b72 j s = cheb128 s.main_v7_0 (Step.b64 j s) := rfl
  have e3 : Step.b74 j s = prop128 s.main_v7_1 (Step.b64 j s) := rfl
  have e4 : Step.b80 j s = cheb128 s.main_v7_1 (Step.b64 j s) := rfl
  have e : Step.b93 j s = sigm (mix128_128 s.main_v7_6 s.main_v7_7 (Step.b64 j s) (Step.b66 j s) (Step.b72 j s) (Step.b74 j s) (Step.b80 j s)) := rfl
  rw [e, e1, e2, e3, e4]

theorem b119_eq : Step.b119 j s = Host.tanh (mix128_64 s.main_v7_8 s.main_v7_9 (Step.b97 j s) (prop128 s.main_v7_0 (Step.b97 j s)) (cheb128 s.main_v7_0 (Step.b97 j s)) (prop128 s.main_v7_1 (Step.b97 j s)) (cheb128 s.main_v7_1 (Step.b97 j s))) := by
  have e1 : Step.b99 j s = prop128 s.main_v7_0 (Step.b97 j s) := rfl
  have e2 : Step.b105 j s = cheb128 s.main_v7_0 (Step.b97 j s) := rfl
  have e3 : Step.b107 j s = prop128 s.main_v7_1 (Step.b97 j s) := rfl
  have e4 : Step.b113 j s = cheb128 s.main_v7_1 (Step.b97 j s) := rfl
  have e : Step.b119 j s = Host.tanh (mix128_64 s.main_v7_8 s.main_v7_9 (Step.b97 j s) (Step.b99 j s) (Step.b105 j s) (Step.b107 j s) (Step.b113 j s)) := rfl
  rw [e, e1, e2, e3, e4]

/-- The layer's new state is its cell. -/
theorem b125_eq : Step.b125 j s = cell128 s.main_v7_0 s.main_v7_1 s.main_v7_6 s.main_v7_7 s.main_v7_8 s.main_v7_9 (Step.b63 j s) s.main_v7_17 := by
  unfold cell128
  have eg := b93_eq j s
  have ec := b119_eq j s
  have ey : Step.b64 j s = concatenate S64x325x128 2 [⟨S64x325x64, (Step.b63 j s)⟩, ⟨S64x325x64, s.main_v7_17⟩] concatenates_S64x325x64_S64x325x64_S64x325x128_d2 := rfl
  have ez : Step.b97 j s = concatenate S64x325x128 2 [⟨S64x325x64, (Step.b63 j s)⟩, ⟨S64x325x64,
      mulf (extractStridedSlice S64x325x64 ![0, 0, 0] (Step.b93 j s) slices_S64x325x128_S64x325x64_0_0_0) s.main_v7_17⟩]
        concatenates_S64x325x64_S64x325x64_S64x325x128_d2 := rfl
  rw [ey] at eg
  rw [ez] at ec
  dsimp only
  rw [← eg, ← ec]
  rfl

end

end Cert.ReferenceIdeal.Conv
-- ==== Proof.RRun.lean ====
/-
  The reference's loop: before step `t` its carried arrays hold the recurrence's state before step `t`, and its output the
  predictions of the steps before.
-/
module

public import proofs.«01_k».proof.Proof.RConv
public import Idealize.ShloMosaic.Lib.WordCmp
public import Idealize.ShloMosaic.Lib.DynamicIndex

@[expose] public section

set_option maxRecDepth 16384

noncomputable section

open Idealize.ShloMosaic Idealize.ShloMosaic.TcCoe Idealize.SL.Sem

namespace Cert.ReferenceIdeal.Conv

open Cert.ReferenceIdeal Cert.ReferenceIdeal.Gen Cert.Dcrnn

/-- The loop's arrays before step `t`. -/
structure Good (P : Par) (t : ℕ) (s : Step.State Ideal) : Prop where
  cur : ∀ b i c, s.main_v7_15 (ix3 b i c) = (((st P t).cur b i c : ℝ) : EReal)
  s0 : ∀ b i c, s.main_v7_16 (ix3 b i c) = (((st P t).s0 b i c : ℝ) : EReal)
  s1 : ∀ b i c, s.main_v7_17 (ix3 b i c) = (((st P t).s1 b i c : ℝ) : EReal)
  outs : ∀ b (k : Fin 11) i c, k.val < t → s.main_v7_18 (ix4 b k i c) = (((st P k.val).proj P b i c : ℝ) : EReal)
  A0 : ∀ i j, s.main_v7_0 (ix2 i j) = ((P.A0 i j : ℝ) : EReal)
  A1 : ∀ i j, s.main_v7_1 (ix2 i j) = ((P.A1 i j : ℝ) : EReal)
  wg0 : ∀ (k : Fin 5) (q : Fin 66) o, s.main_v7_2 (ix2 (⟨k.val * 66 + q.val, by omega⟩ : Fin 330) o) = ((P.C0.Wg k q o : ℝ) : EReal)
  bg0 : ∀ o, s.main_v7_3 (ix1 o) = P.C0.bg o
  wc0 : ∀ (k : Fin 5) (q : Fin 66) o, s.main_v7_4 (ix2 (⟨k.val * 66 + q.val, by omega⟩ : Fin 330) o) = ((P.C0.Wc k q o : ℝ) : EReal)
  bc0 : ∀ o, s.main_v7_5 (ix1 o) = P.C0.bc o
  wg1 : ∀ (k : Fin 5) (q : Fin 128) o, s.main_v7_6 (ix2 (⟨k.val * 128 + q.val, by omega⟩ : Fin 640) o) = ((P.C1.Wg k q o : ℝ) : EReal)
  bg1 : ∀ o, s.main_v7_7 (ix1 o) = P.C1.bg o
  wc1 : ∀ (k : Fin 5) (q : Fin 128) o, s.main_v7_8 (ix2 (⟨k.val * 128 + q.val, by omega⟩ : Fin 640) o) = ((P.C1.Wc k q o : ℝ) : EReal)
  bc1 : ∀ o, s.main_v7_9 (ix1 o) = P.C1.bc o
  Wp : ∀ q c, s.main_v7_10 (ix2 q c) = ((P.Wp q c : ℝ) : EReal)
  bp : ∀ c, s.main_v7_11 (ix1 c) = ((P.bp c : ℝ) : EReal)
  inp : ∀ b k i c, s.main_v7_12 (ix4 b k i c) = ((P.inp b k i c : ℝ) : EReal)

variable {P : Par} {t : ℕ} {s : Step.State Ideal}

theorem b63_at (h : Good P t s) (b : Fin 64) (i : Fin 325) (o : Fin 64) :
    Step.b63 t s (ix3 b i o) = (((st P t).h0 P b i o : ℝ) : EReal) := by
  rw [b63_eq]
  exact cell66_at _ _ _ _ _ _ _ _ P.A0 P.A1 P.C0 _ _ h.A0 h.A1 h.cur h.s0 h.bg0 h.bc0 h.wg0 h.wc0 b i o

theorem b125_at (h : Good P t s) (b : Fin 64) (i : Fin 325) (o : Fin 64) :
    Step.b125 t s (ix3 b i o) = (((st P t).h1 P b i o : ℝ) : EReal) := by
  rw [b125_eq]
  exact cell128_at _ _ _ _ _ _ _ _ P.A0 P.A1 P.C1 _ _ h.A0 h.A1 (b63_at h) h.s1 h.bg1 h.bc1 h.wg1 h.wc1 b i o

/-- The step's prediction. -/
theorem b129_at (h : Good P t s) (b : Fin 64) (i : Fin 325) (c : Fin 2) :
    Step.b129 t s (ix3 b i c) = (((st P t).proj P b i c : ℝ) : EReal) := by
  have h1 := b125_at h
  unfold Step.b129 Step.b128 Step.b127 Step.b126
  generalize Step.b125 t s = y at h1 ⊢
  pointwise
  simp only [h1, h.Wp, h.bp, ← EReal.coe_mul, ← coe_sum, ← EReal.coe_add]
  rfl

/-- The next entry of the recorded sequence. -/
theorem b142_at (h : Good P t s) (ht : t < 11) (b : Fin 64) (i : Fin 325) (c : Fin 2) :
    Step.b142 t s (ix3 b i c) = ((P.seq (t + 1) b i c : ℝ) : EReal) := by
  have hs : Step.b142 t s (ix3 b i c) = s.main_v7_12 (ix4 b (⟨t + 1, by omega⟩ : Fin 12) i c) := by
    have e131 : Step.b131 t s = constantI S_ 32 (BitVec.ofNat 32 (t + 1)) := by
      funext x
      show BitVec.ofNat 32 t + 1#32 = BitVec.ofNat 32 (t + 1)
      simp only [BitVec.ofNat_add]
    have e137 : (Step.b137 t s (Shape.Idx.first h_S_)).toInt = ((t + 1 : ℕ) : Int) := by
      unfold Step.b137 Step.b136 Step.b134 Step.b133 Step.b132
      rw [e131]
      exact toInt_wrap_ofNat (t + 1) (by omega)
    have hoff : S64x12x325x2.Slices ![0, t + 1, 0, 0] S64x1x325x2 := by
      interval_cases t <;> decide
    have e141 : Step.b141 t s = extractStridedSlice S64x1x325x2 ![0, t + 1, 0, 0] s.main_v7_12 hoff := by
      unfold Step.b141
      refine Host.dynamicSlice_eq_extractStridedSlice _ _ _ _ _ hoff fun a => ?_
      fin_cases a
      · rfl
      · exact e137
      · rfl
      · rfl
    unfold Step.b142
    rw [e141]
    pointwise
  rw [hs, h.inp]
  unfold Par.seq
  rw [dif_pos (by omega)]

/-- Whether the step is forced. -/
theorem b176_at (ht : t < 11) (s : Step.State Ideal) : Step.b176 t s = fun _ => if forced t then 1#1 else 0#1 := by
  funext x
  have e : Step.b176 t s x = IntOp.ori (IntOp.ori (IntOp.ori (IntOp.ori
      (IntOp.cmpi .ne (IntOp.cmpi .eq (BitVec.ofNat 32 t) 0#32) 0#1) (IntOp.cmpi .ne (IntOp.cmpi .eq (BitVec.ofNat 32 t) 4#32) 0#1))
      (IntOp.cmpi .ne (IntOp.cmpi .eq (BitVec.ofNat 32 t) 5#32) 0#1)) (IntOp.cmpi .ne (IntOp.cmpi .eq (BitVec.ofNat 32 t) 6#32) 0#1))
      (IntOp.cmpi .ne (IntOp.cmpi .eq (BitVec.ofNat 32 t) 10#32) 0#1) := rfl
  rw [e]
  interval_cases t <;> decide

theorem b177_at (h : Good P t s) (ht : t < 11) (b : Fin 64) (i : Fin 325) (c : Fin 2) :
    Step.b177 t s (ix3 b i c) = (((st P (t + 1)).cur b i c : ℝ) : EReal) := by
  have h1 := b142_at h ht b i c
  have h2 := b129_at h b i c
  unfold Step.b177
  rw [b176_at ht]
  pointwise
  rw [h1, h2]
  show _ = (((if forced t then P.seq (t + 1) else (st P t).proj P) b i c : ℝ) : EReal)
  cases forced t <;> rfl

theorem b186_at (h : Good P t s) (ht : t < 11) (b : Fin 64) (k : Fin 11) (i : Fin 325) (c : Fin 2) (hk : k.val < t + 1) :
    Step.b186 t s (ix4 b k i c) = (((st P k.val).proj P b i c : ℝ) : EReal) := by
  have h2 := b129_at h b i c
  have hsel : Step.b186 t s (ix4 b k i c) = if k.val = t then Step.b129 t s (ix3 b i c) else s.main_v7_18 (ix4 b k i c) := by
    unfold Step.b186 Step.b185 Step.b184 Step.b183 Step.b182 Step.b181 Step.b180 Step.b179 Step.b178
    generalize Step.b129 t s = y
    pointwise [hlo_ix]
    have e : (BitVec.ofNat 32 k.val).toNat = k.val := by rw [BitVec.toNat_ofNat]; exact Nat.mod_eq_of_lt (by omega)
    have e' : (id (constantI S_ 32 (BitVec.ofNat 32 t)) ix0 : BitVec 32).toNat = t := by
      show (BitVec.ofNat 32 t).toNat = t
      rw [BitVec.toNat_ofNat]; exact Nat.mod_eq_of_lt (by omega)
    rw [e, e']
  rw [hsel]
  split
  · next e => rw [h2, e]
  · exact h.outs b k i c (by omega)

/-- One step keeps the arrays at the recurrence. -/
theorem good_step (h : Good P t s) (ht : t < 11) : Good P (t + 1) (Step.step t s) where
  cur b i c := b177_at h ht b i c
  s0 b i c := b63_at h b i c
  s1 b i c := b125_at h b i c
  outs b k i c hk := b186_at h ht b k i c hk
  A0 := h.A0
  A1 := h.A1
  wg0 := h.wg0
  bg0 := h.bg0
  wc0 := h.wc0
  bc0 := h.bc0
  wg1 := h.wg1
  bg1 := h.bg1
  wc1 := h.wc1
  bc1 := h.bc1
  Wp := h.Wp
  bp := h.bp
  inp := h.inp

/-- The loop's arrays after all eleven steps. -/
theorem good_iter (it : ℕ → Step.State Ideal) (h0 : Good P 0 (it 0)) (hs : ∀ n, it (n + 1) = Step.step n (it n)) :
    ∀ n, n ≤ 11 → Good P n (it n)
  | 0, _ => h0
  | n + 1, hn => hs n ▸ good_step (good_iter it h0 hs n (by omega)) (by omega)

end Cert.ReferenceIdeal.Conv
-- ==== Proof.RInit.lean ====
/-
  The reference from its arguments: the state its loop starts from, and the predictions its result holds.
-/
module

public import proofs.«01_k».proof.Proof.RRun
public import proofs.«01_k».proof.Proof.Args

@[expose] public section

set_option maxRecDepth 16384

noncomputable section

open Idealize.ShloMosaic

namespace Cert.ReferenceIdeal.Conv

open Cert.ReferenceIdeal Cert.ReferenceIdeal.Gen Cert.Dcrnn

/-- Every step's prediction, as the result array. -/
def result (P : Par) (y : S64x11x325x2.Idx) : EReal := (((st P (y 1).val).proj P (y 0) (y 2) (y 3) : ℝ) : EReal)

variable (a0 : FVec Ideal S64x12x325x2 .f32) (a1 : FVec Ideal S2x64x325x64 .f32) (a2 : FVec Ideal S325x325 .f32) (a3 : FVec Ideal S325x325 .f32) (a4 : FVec Ideal S330x128 .f32) (a5 : FVec Ideal S128 .f32) (a6 : FVec Ideal S330x64 .f32) (a7 : FVec Ideal S64 .f32) (a8 : FVec Ideal S640x128 .f32) (a9 : FVec Ideal S128 .f32) (a10 : FVec Ideal S640x64 .f32) (a11 : FVec Ideal S64 .f32) (a12 : FVec Ideal S64x2 .f32) (a13 : FVec Ideal S2 .f32)

theorem good_init (h : AllReal a0 a1 a2 a3 a4 a5 a6 a7 a8 a9 a10 a11 a12 a13) : Good (par a0 a1 a2 a3 a4 a5 a6 a7 a8 a9 a10 a11 a12 a13) 0 (Step.init (F := Ideal) a2 a3 a4 a5 a6 a7 a8 a9 a10 a11 a12 a13 a0 a1) where
  cur b i k := by
    refine Eq.trans (b := a0 (ix4 b 0 i k)) ?_ ((h.r0 _).trans ?_)
    · show Step.A_main_v1 (F := Ideal) a0 a1 (ix3 b i k) = _
      pointwise [Step.A_main_v1, Step.A_main_v0]
    · rfl
  s0 b i q := by
    refine Eq.trans (b := a1 (ix4 0 b i q)) ?_ (h.r1 _)
    show Step.A_main_v3 (F := Ideal) a0 a1 (ix3 b i q) = _
    pointwise [Step.A_main_v3, Step.A_main_v2]
  s1 b i q := by
    refine Eq.trans (b := a1 (ix4 1 b i q)) ?_ (h.r1 _)
    show Step.A_main_v5 (F := Ideal) a0 a1 (ix3 b i q) = _
    pointwise [Step.A_main_v5, Step.A_main_v4]
  outs b k i o hk := absurd hk (Nat.not_lt_zero _)
  A0 i j := h.r2 _
  A1 i j := h.r3 _
  wg0 k q o := h.r4 _
  bg0 o := rfl
  wc0 k q o := h.r6 _
  bc0 o := rfl
  wg1 k q o := h.r8 _
  bg1 o := rfl
  wc1 k q o := h.r10 _
  bc1 o := rfl
  Wp q k := h.r12 _
  bp k := h.r13 _
  inp b k i o := h.r0 _

theorem result_eq (h : AllReal a0 a1 a2 a3 a4 a5 a6 a7 a8 a9 a10 a11 a12 a13) (it : ℕ → Step.State Ideal) (h0 : it 0 = Step.init (F := Ideal) a2 a3 a4 a5 a6 a7 a8 a9 a10 a11 a12 a13 a0 a1)
    (hs : ∀ n, it (n + 1) = Step.step n (it n)) : (it 11).main_v7_18 = result (par a0 a1 a2 a3 a4 a5 a6 a7 a8 a9 a10 a11 a12 a13) := by
  have g := good_iter it (h0 ▸ good_init a0 a1 a2 a3 a4 a5 a6 a7 a8 a9 a10 a11 a12 a13 h) hs 11 (le_refl _)
  funext y
  idx_vars y
  exact g.outs _ _ _ _ (Fin.isLt _)

end Cert.ReferenceIdeal.Conv
-- ==== Proof.KTail.lean ====
/-
  The kernel's host lines after the region, and its run: the result holds every prediction, the arguments are unchanged.
-/
module

public import proofs.«01_k».proof.Proof.KArray
public import proofs.«01_k».proof.Proof.RInit
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.KernelIdeal.Conv

open Cert.KernelIdeal Cert.KernelIdeal.Gen Cert.Dcrnn

/-- The host lines after the region: chunks and rows back to the batch, the batch first. -/
def regroup (x : FVec Ideal S11x4x325x32 .f32) : FVec Ideal S64x11x325x2 .f32 :=
  transpose S64x11x325x2 [2, 0, 1, 3]
    (shapeCast S11x325x64x2 (transpose S11x325x4x32 [0, 2, 1, 3] x transposes_S11x4x325x32_S11x325x4x32_0_2_1_3) shapeCasts_S11x325x4x32_S11x325x64x2)
    transposes_S11x325x64x2_S64x11x325x2_2_0_1_3

theorem regroup_whole (P : Par) : regroup (whole P) = Cert.ReferenceIdeal.Conv.result P := by
  funext y
  obtain ⟨b, k, i, o, rfl⟩ : ∃ (b : Fin 64) (k : Fin 11) (i : Fin 325) (o : Fin 2), y = ix4 b k i o := ⟨y 0, y 1, y 2, y 3, by blk_ext⟩
  pointwise [regroup]
  have e : row (⟨b.val / 16, by omega⟩ : Fin 4) (⟨b.val % 16, by omega⟩ : Fin 16) = b := Fin.ext (show b.val / 16 * 16 + b.val % 16 = b.val by omega)
  refine (goal_at P (⟨b.val / 16, by omega⟩ : Fin 4) k i (⟨b.val % 16, by omega⟩ : Fin 16) o).trans ?_
  rw [e]
  rfl

theorem tail_read (W : Valuation τ sig (Elt Ideal)) :
    StableHlo.after (List.flatten [hostOps1 (F := Ideal)]) W (Proc.devRef .tc main_v44) = regroup (W (Proc.devRef .tc main_v41)) := by
  simp only [hostOps1, List.flatten_cons, List.flatten_nil, List.cons_append, List.nil_append, List.append_nil]
  entry_read
  rfl

variable (m : (ℓ : Loc nD τ sig) → Buf (Elt Ideal) ℓ) (ρ : Dev nD → PrngReg)

theorem after_region (c : Dev nD) (h : MReal m c) :
    Pipeline.afterTail₀ cfgs (dats m) 0 (V0 m) [hostOps1] c main_v44 = Cert.ReferenceIdeal.Conv.result (parOf m c) := by
  unfold Pipeline.afterTail₀
  refine (tail_read _).trans ?_
  refine Eq.trans (congrArg regroup ?_) (regroup_whole (parOf m c))
  exact (Pipeline.withArrays_arr spec0 (by decide) c (V0 m c) (fun w => (dats m 0 c).arrAt w (cfgs 0).N) 16).trans (final m c h)

theorem kernel_run (h : ∀ c, MReal m c) :
    θ_run defs (onTc (τ := τ) (main (F := Ideal))) ⟨m, fun _ => 0, ρ⟩ (fun r => ∀ c : Dev nD,
      r.2.mem ((c.tc : Thread nD τ).loc main_v44) = Cert.ReferenceIdeal.Conv.result (parOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r hr c => ⟨(((hr.1 c).2 main_v44 (Pipeline.mem_restRefs_of main_v44 (by decide) (by decide))).trans (after_region m c (h c))), hr.2 c⟩)
    (θ_run_and (run_main m ρ) (unchanged m ρ))

end Cert.KernelIdeal.Conv
-- ==== Proof.lean ====
/-
  The claim: the frames from the generated runs, and the two programs' results from the recurrence both compute.
-/
module

public import proofs.«01_k».proof.Defs
public import proofs.«01_k».proof.Proof.Gen.Kernel.Frame
public import proofs.«01_k».proof.Proof.Gen.KernelIdeal.Frame
public import proofs.«01_k».proof.Proof.Gen.ReferenceIdeal.StepRun
public import proofs.«01_k».proof.Proof.KTail
public import Idealize.ShloMosaic.Lib.Claim
public import Idealize.ShloMosaic.Lib.Quiescent

@[expose] public section

set_option maxRecDepth 16384

noncomputable section

namespace Cert.Proof

open Idealize.ShloMosaic Idealize.SL.Sem Cert.Dcrnn

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite.Facts := Cert.Pre_finite.holds

/-- The reference's states, one per step. -/
def states (m : (ℓ : Loc Cert.ReferenceIdeal.nD Cert.ReferenceIdeal.τ Cert.ReferenceIdeal.sig) → Buf (Elt Ideal) ℓ) (c : Dev Cert.ReferenceIdeal.nD) :
    ℕ → Cert.ReferenceIdeal.Step.State Ideal
  | 0 => Cert.ReferenceIdeal.StepRun.initState m c
  | n + 1 => Cert.ReferenceIdeal.Step.step n (states m c n)

theorem quiescent_ref : Cert.quiescent_ReferenceIdeal := fun m g _ =>
  (θ_run Cert.ReferenceIdeal.defs _ _).mono (fun r h => ⟨fun c => (h c).2, sem_eq_zero_of_no_sems (by decide) r.2⟩)
    (Cert.ReferenceIdeal.StepRun.run_iter m g (states m) (fun _ => rfl) (fun _ _ => rfl))

theorem quiescent_ref_pre : Cert.quiescent_ReferenceIdeal_pre_finite := fun m g _ =>
  (θ_run Cert.ReferenceIdeal.defs _ _).mono (fun r h => ⟨fun c => (h c).2, sem_eq_zero_of_no_sems (by decide) r.2⟩)
    (Cert.ReferenceIdeal.StepRun.run_iter m g (states m) (fun _ => rfl) (fun _ _ => rfl))

/-- Both programs end with the recurrence's predictions. -/
theorem algebraic : Cert.algebraic_KernelIdeal_ReferenceIdeal_pre_finite := by
  intro m g m' g' hpre hagree
  have hr : ∀ c, Cert.KernelIdeal.Conv.MReal m c := fun c => allReal_of_pre _ _ _ _ _ _ _ _ _ _ _ _ _ _ (hpre c)
  refine ⟨fun c => Cert.ReferenceIdeal.Conv.result (Cert.KernelIdeal.Conv.parOf m c), Cert.KernelIdeal.Conv.kernel_run m g hr, ?_⟩
  refine (θ_run Cert.ReferenceIdeal.defs _ _).mono (fun r h c => ⟨(h c).1.trans ?_, (h c).2⟩)
    (Cert.ReferenceIdeal.StepRun.run_iter m' g' (states m') (fun _ => rfl) (fun _ _ => rfl))
  obtain ⟨e0, e1, e2, e3, e4, e5, e6, e7, e8, e9, e10, e11, e12, e13⟩ := hagree c
  refine Cert.ReferenceIdeal.Conv.result_eq _ _ _ _ _ _ _ _ _ _ _ _ _ _ (hr c) (states m' c) ?_ (fun _ => rfl)
  show Cert.ReferenceIdeal.StepRun.initState m' c = _
  unfold Cert.ReferenceIdeal.StepRun.initState
  rw [e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite.holds,
    fun m g _ => Cert.Kernel.Gen.frame m g,
    fun m g _ => Cert.KernelIdeal.Gen.frame m g,
    fun m g _ => Cert.KernelIdeal.Gen.frame m g,
    quiescent_ref,
    quiescent_ref_pre,
    trivial,
    algebraic⟩

end Cert.Proof

end
